-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_logit_inputs_finite [hPre_logit_inputs_finite : Cert.Pre_logit_inputs_finite.Facts] (m : (ℓ : Loc Cert.KernelIdeal.nD Cert.KernelIdeal.τ Cert.KernelIdeal.sig) → Buf (Elt Ideal) ℓ) : Prop :=
  ∀ c : Dev Cert.KernelIdeal.nD,
    (Cert.Pre_logit_inputs_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_logit_inputs_finite [hPre_logit_inputs_finite : Cert.Pre_logit_inputs_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_logit_inputs_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_KernelIdeal_pre_logit_inputs_finite [hKernelIdeal : Cert.KernelIdeal.Facts] [hPre_logit_inputs_finite : Cert.Pre_logit_inputs_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_logit_inputs_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_ReferenceIdeal_pre_logit_inputs_finite [hReferenceIdeal : Cert.ReferenceIdeal.Facts] [hPre_logit_inputs_finite : Cert.Pre_logit_inputs_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_logit_inputs_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def preserves_Kernel_KernelIdeal : Prop :=
  True

def algebraic_KernelIdeal_ReferenceIdeal_pre_logit_inputs_finite [hKernelIdeal : Cert.KernelIdeal.Facts] [hReferenceIdeal : Cert.ReferenceIdeal.Facts] [hPre_logit_inputs_finite : Cert.Pre_logit_inputs_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_logit_inputs_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_logit_inputs_finite : Cert.Pre_logit_inputs_finite.Facts),
    quiescent_Kernel (hKernel := hKernel)
    ∧ quiescent_KernelIdeal (hKernelIdeal := hKernelIdeal)
    ∧ quiescent_KernelIdeal_pre_logit_inputs_finite (hKernelIdeal := hKernelIdeal) (hPre_logit_inputs_finite := hPre_logit_inputs_finite)
    ∧ quiescent_ReferenceIdeal (hReferenceIdeal := hReferenceIdeal)
    ∧ quiescent_ReferenceIdeal_pre_logit_inputs_finite (hReferenceIdeal := hReferenceIdeal) (hPre_logit_inputs_finite := hPre_logit_inputs_finite)
    ∧ preserves_Kernel_KernelIdeal
    ∧ algebraic_KernelIdeal_ReferenceIdeal_pre_logit_inputs_finite (hKernelIdeal := hKernelIdeal) (hReferenceIdeal := hReferenceIdeal) (hPre_logit_inputs_finite := hPre_logit_inputs_finite)
-- ==== Pre_logit_inputs_finite.lean ====
abbrev S16384x1024 : Shape := ⟨2, ![16384, 1024]⟩
abbrev S16384 : Shape := ⟨1, ![16384]⟩
abbrev S1024x2048 : Shape := ⟨2, ![1024, 2048]⟩
abbrev S2048 : Shape := ⟨1, ![2048]⟩
abbrev S2048x1024 : Shape := ⟨2, ![2048, 1024]⟩
abbrev S1024 : Shape := ⟨1, ![1024]⟩
abbrev S1024x1024 : Shape := ⟨2, ![1024, 1024]⟩
abbrev S1024x512 : Shape := ⟨2, ![1024, 512]⟩
abbrev S512 : Shape := ⟨1, ![512]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1024x2048 : S_.BroadcastsInDim S1024x2048 (![] : Fin 0 → Fin S1024x2048.rank)
  reducesTo_S1024x2048_S_d0_1 : S1024x2048.ReducesTo [0, 1] S_
  bcast_S_S2048 : S_.BroadcastsInDim S2048 (![] : Fin 0 → Fin S2048.rank)
  reducesTo_S2048_S_d0 : S2048.ReducesTo [0] S_
  bcast_S_S2048x1024 : S_.BroadcastsInDim S2048x1024 (![] : Fin 0 → Fin S2048x1024.rank)
  reducesTo_S2048x1024_S_d0_1 : S2048x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg9 : FVec F S1024 .f32) (main_v13 : IVec S_ 1) (main_v16 : IVec S2048x1024 1) : IVec S_ 1 :=
  let main_c_5 : IVec S_ 1 := constantI S_ 1 1#1
  let main_v17 : IVec S_ 1 := (fun x v => Host.reduce IntOp.andi x v reducesTo_S2048x1024_S_d0_1 h_S_) main_v16 main_c_5
  let main_v18 : IVec S_ 1 := andi main_v13 main_v17
  let main_v19 : FVec F S1024 .f32 := Host.absf main_arg9
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S16384x1024 .f32) (main_arg1 : IVec S16384 32) (main_arg2 : FVec F S1024x2048 .f32) (main_arg3 : FVec F S2048 .f32) (main_arg4 : FVec F S2048x1024 .f32) (main_arg5 : FVec F S1024 .f32) (main_arg6 : FVec F S1024x2048 .f32) (main_arg7 : FVec F S2048 .f32) (main_arg8 : FVec F S2048x1024 .f32) (main_arg9 : FVec F S1024 .f32) (main_arg10 : FVec F S1024x1024 .f32) (main_arg11 : FVec F S1024 .f32) (main_arg12 : FVec F S1024x512 .f32) (main_arg13 : FVec F S512 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S1024x2048 .f32 := Host.absf main_arg6
  let main_cst_0 : FVec F S_ .f32 := constant S_ .f32 0x7F800000#32
  let main_v5 : FVec F S1024x2048 .f32 := broadcastInDim S1024x2048 ![] bcast_S_S1024x2048 main_cst_0
  let main_v6 : IVec S1024x2048 1 := cmpf .olt main_v4 main_v5
  let main_c_1 : IVec S_ 1 := constantI S_ 1 1#1
  let main_v7 : IVec S_ 1 := (fun x v => Host.reduce IntOp.andi x v reducesTo_S1024x2048_S_d0_1 h_S_) main_v6 main_c_1
  let main_v8 : IVec S_ 1 := andi main_v3 main_v7
  let main_v9 : FVec F S2048 .f32 := Host.absf main_arg7
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S2048x1024 .f32 := Host.absf main_arg8
  let main_cst_4 : FVec F S_ .f32 := constant S_ .f32 0x7F800000#32
  let main_v15 : FVec F S2048x1024 .f32 := broadcastInDim S2048x1024 ![] bcast_S_S2048x1024 main_cst_4
  let main_v16 : IVec S2048x1024 1 := cmpf .olt main_v14 main_v15
  fn_part1 (F := F) main_arg9 main_v13 main_v16
-- ==== Kernel.lean ====
abbrev S16384x1024 : Shape := ⟨2, ![16384, 1024]⟩
abbrev S16384 : Shape := ⟨1, ![16384]⟩
abbrev S1024x2048 : Shape := ⟨2, ![1024, 2048]⟩
abbrev S2048 : Shape := ⟨1, ![2048]⟩
abbrev S2048x1024 : Shape := ⟨2, ![2048, 1024]⟩
abbrev S1024 : Shape := ⟨1, ![1024]⟩
abbrev S1024x1024 : Shape := ⟨2, ![1024, 1024]⟩
abbrev S1024x512 : Shape := ⟨2, ![1024, 512]⟩
abbrev S512 : Shape := ⟨1, ![512]⟩
abbrev S32x512x1 : Shape := ⟨3, ![32, 512, 1]⟩
abbrev S1x2048 : Shape := ⟨2, ![1, 2048]⟩
abbrev S1x1024 : Shape := ⟨2, ![1, 1024]⟩
abbrev S1x512 : Shape := ⟨2, ![1, 512]⟩
abbrev S16x512 : Shape := ⟨2, ![16, 512]⟩
abbrev S512x1024 : Shape := ⟨2, ![512, 1024]⟩
abbrev S1x512x1 : Shape := ⟨3, ![1, 512, 1]⟩
abbrev S16x1024 : Shape := ⟨2, ![16, 1024]⟩
abbrev S512x2048 : Shape := ⟨2, ![512, 2048]⟩
abbrev S512x1 : Shape := ⟨2, ![512, 1]⟩
abbrev S512x16 : Shape := ⟨2, ![512, 16]⟩

abbrev nBuf : Space → Nat
  | .hbm => 28
  | .vmem => 20
  | .smem => 0
  | _ => 0

abbrev bufTy : (tb : Table) → Fin (tcTables nBuf tb) → BufTy
  | .hbm, ⟨0, _⟩ => ⟨S16384x1024, .f32⟩
  | .hbm, ⟨1, _⟩ => ⟨S16384, .i32⟩
  | .hbm, ⟨2, _⟩ => ⟨S1024x2048, .f32⟩
  | .hbm, ⟨3, _⟩ => ⟨S2048, .f32⟩
  | .hbm, ⟨4, _⟩ => ⟨S2048x1024, .f32⟩
  | .hbm, ⟨5, _⟩ => ⟨S1024, .f32⟩
  | .hbm, ⟨6, _⟩ => ⟨S1024x2048, .f32⟩
  | .hbm, ⟨7, _⟩ => ⟨S2048, .f32⟩
  | .hbm, ⟨8, _⟩ => ⟨S2048x1024, .f32⟩
  | .hbm, ⟨9, _⟩ => ⟨S1024, .f32⟩
  | .hbm, ⟨10, _⟩ => ⟨S1024x1024, .f32⟩
  | .hbm, ⟨11, _⟩ => ⟨S1024, .f32⟩
  | .hbm, ⟨12, _⟩ => ⟨S1024x512, .f32⟩
  | .hbm, ⟨13, _⟩ => ⟨S512, .f32⟩
  | .hbm, ⟨14, _⟩ => ⟨S32x512x1, .i32⟩
  | .hbm, ⟨15, _⟩ => ⟨S1x2048, .f32⟩
  | .hbm, ⟨16, _⟩ => ⟨S1x1024, .f32⟩
  | .hbm, ⟨17, _⟩ => ⟨S1x2048, .f32⟩
  | .hbm, ⟨18, _⟩ => ⟨S1x1024, .f32⟩
  | .hbm, ⟨19, _⟩ => ⟨S1x1024, .f32⟩
  | .hbm, ⟨20, _⟩ => ⟨S1x512, .f32⟩
  | .hbm, ⟨21, _⟩ => ⟨S1x2048, .f32⟩
  | .hbm, ⟨22, _⟩ => ⟨S1x1024, .f32⟩
  | .hbm, ⟨23, _⟩ => ⟨S1x2048, .f32⟩
  | .hbm, ⟨24, _⟩ => ⟨S1x1024, .f32⟩
  | .hbm, ⟨25, _⟩ => ⟨S1x1024, .f32⟩
  | .hbm, ⟨26, _⟩ => ⟨S1x512, .f32⟩
  | .hbm, ⟨27, _⟩ => ⟨S16x512, .f32⟩
  | .local _ .vmem, ⟨0, _⟩ => ⟨S512x1024, .f32⟩
  | .local _ .vmem, ⟨1, _⟩ => ⟨S512x1024, .f32⟩
  | .local _ .vmem, ⟨2, _⟩ => ⟨S1x512x1, .i32⟩
  | .local _ .vmem, ⟨3, _⟩ => ⟨S1x512x1, .i32⟩
  | .local _ .vmem, ⟨4, _⟩ => ⟨S1024x2048, .f32⟩
  | .local _ .vmem, ⟨5, _⟩ => ⟨S1x2048, .f32⟩
  | .local _ .vmem, ⟨6, _⟩ => ⟨S2048x1024, .f32⟩
  | .local _ .vmem, ⟨7, _⟩ => ⟨S1x1024, .f32⟩
  | .local _ .vmem, ⟨8, _⟩ => ⟨S1024x2048, .f32⟩
  | .local _ .vmem, ⟨9, _⟩ => ⟨S1x2048, .f32⟩
  | .local _ .vmem, ⟨10, _⟩ => ⟨S2048x1024, .f32⟩
  | .local _ .vmem, ⟨11, _⟩ => ⟨S1x1024, .f32⟩
  | .local _ .vmem, ⟨12, _⟩ => ⟨S1024x1024, .f32⟩
  | .local _ .vmem, ⟨13, _⟩ => ⟨S1x1024, .f32⟩
  | .local _ .vmem, ⟨14, _⟩ => ⟨S1024x512, .f32⟩
  | .local _ .vmem, ⟨15, _⟩ => ⟨S1x512, .f32⟩
  | .local _ .vmem, ⟨16, _⟩ => ⟨S16x512, .f32⟩
  | .local _ .vmem, ⟨17, _⟩ => ⟨S1x1024, .f32⟩
  | .local _ .vmem, ⟨18, _⟩ => ⟨S16x1024, .f32⟩
  | .local _ .vmem, ⟨19, _⟩ => ⟨S16x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_v12 : Ref sig .tc := ⟨.hbm, 26, rfl⟩
abbrev main_v0 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v75 : BitVec 1 := Scalar.cmpi .eq arg0 c31_i32
  let v76 : BitVec 32 := Scalar.extui v75
  let c0_i32_41 : BitVec 32 := 0#32
  let v77 : BitVec 1 := Scalar.cmpi .ne v76 c0_i32_41
  v77

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2048x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S16x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== ReferenceIdeal.lean ====
abbrev S16384x1024 : Shape := ⟨2, ![16384, 1024]⟩
abbrev S16384 : Shape := ⟨1, ![16384]⟩
abbrev S1024x2048 : Shape := ⟨2, ![1024, 2048]⟩
abbrev S2048 : Shape := ⟨1, ![2048]⟩
abbrev S2048x1024 : Shape := ⟨2, ![2048, 1024]⟩
abbrev S1024 : Shape := ⟨1, ![1024]⟩
abbrev S1024x1024 : Shape := ⟨2, ![1024, 1024]⟩
abbrev S1024x512 : Shape := ⟨2, ![1024, 512]⟩
abbrev S512 : Shape := ⟨1, ![512]⟩
abbrev S16384x2048 : Shape := ⟨2, ![16384, 2048]⟩
abbrev S1x2048 : Shape := ⟨2, ![1, 2048]⟩
abbrev S_ : Shape := ⟨0, ![]⟩
abbrev S1x1024 : Shape := ⟨2, ![1, 1024]⟩
abbrev S1x16384x1 : Shape := ⟨3, ![1, 16384, 1]⟩
abbrev S16 : Shape := ⟨1, ![16]⟩
abbrev S16x1x1 : Shape := ⟨3, ![16, 1, 1]⟩
abbrev S16x16384x1 : Shape := ⟨3, ![16, 16384, 1]⟩
abbrev S1x16384x1024 : Shape := ⟨3, ![1, 16384, 1024]⟩
abbrev S16x16384x1024 : Shape := ⟨3, ![16, 16384, 1024]⟩
abbrev S16x1024 : Shape := ⟨2, ![16, 1024]⟩
abbrev S16384x1 : Shape := ⟨2, ![16384, 1]⟩
abbrev S16x512 : Shape := ⟨2, ![16, 512]⟩
abbrev S1x512 : Shape := ⟨2, ![1, 512]⟩

abbrev nBuf : Space → Nat
  | .hbm => 92
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384, .i32⟩
  | .hbm, ⟨2, _⟩ => ⟨S1024x2048, .f32⟩
  | .hbm, ⟨3, _⟩ => ⟨S2048, .f32⟩
  | .hbm, ⟨4, _⟩ => ⟨S2048x1024, .f32⟩
  | .hbm, ⟨5, _⟩ => ⟨S1024, .f32⟩
  | .hbm, ⟨6, _⟩ => ⟨S1024x2048, .f32⟩
  | .hbm, ⟨7, _⟩ => ⟨S2048, .f32⟩
  | .hbm, ⟨8, _⟩ => ⟨S2048x1024, .f32⟩
  | .hbm, ⟨9, _⟩ => ⟨S1024, .f32⟩
  | .hbm, ⟨10, _⟩ => ⟨S1024x1024, .f32⟩
  | .hbm, ⟨11, _⟩ => ⟨S1024, .f32⟩
  | .hbm, ⟨12, _⟩ => ⟨S1024x512, .f32⟩
  | .hbm, ⟨13, _⟩ => ⟨S512, .f32⟩
  | .hbm, ⟨14, _⟩ => ⟨S16384x2048, .f32⟩
  | .hbm, ⟨15, _⟩ => ⟨S1x2048, .f32⟩
  | .hbm, ⟨16, _⟩ => ⟨S16384x2048, .f32⟩
  | .hbm, ⟨17, _⟩ => ⟨S16384x2048, .f32⟩
  | .hbm, ⟨18, _⟩ => ⟨S_, .f32⟩
  | .hbm, ⟨19, _⟩ => ⟨S16384x2048, .f32⟩
  | .hbm, ⟨20, _⟩ => ⟨S16384x2048, .f32⟩
  | .hbm, ⟨21, _⟩ => ⟨S16384x1024, .f32⟩
  | .hbm, ⟨22, _⟩ => ⟨S1x1024, .f32⟩
  | .hbm, ⟨23, _⟩ => ⟨S16384x1024, .f32⟩
  | .hbm, ⟨24, _⟩ => ⟨S16384x1024, .f32⟩
  | .hbm, ⟨25, _⟩ => ⟨S16384x2048, .f32⟩
  | .hbm, ⟨26, _⟩ => ⟨S1x2048, .f32⟩
  | .hbm, ⟨27, _⟩ => ⟨S16384x2048, .f32⟩
  | .hbm, ⟨28, _⟩ => ⟨S16384x2048, .f32⟩
  | .hbm, ⟨29, _⟩ => ⟨S_, .f32⟩
  | .hbm, ⟨30, _⟩ => ⟨S16384x2048, .f32⟩
  | .hbm, ⟨31, _⟩ => ⟨S16384x2048, .f32⟩
  | .hbm, ⟨32, _⟩ => ⟨S16384x1024, .f32⟩
  | .hbm, ⟨33, _⟩ => ⟨S1x1024, .f32⟩
  | .hbm, ⟨34, _⟩ => ⟨S16384x1024, .f32⟩
  | .hbm, ⟨35, _⟩ => ⟨S16384x1024, .f32⟩
  | .hbm, ⟨36, _⟩ => ⟨S1x16384x1, .i32⟩
  | .hbm, ⟨37, _⟩ => ⟨S16, .i32⟩
  | .hbm, ⟨38, _⟩ => ⟨S16x1x1, .i32⟩
  | .hbm, ⟨39, _⟩ => ⟨S16x16384x1, .i32⟩
  | .hbm, ⟨40, _⟩ => ⟨S16x16384x1, .i32⟩
  | .hbm, ⟨41, _⟩ => ⟨S16x16384x1, .i1⟩
  | .hbm, ⟨42, _⟩ => ⟨S1x16384x1024, .f32⟩
  | .hbm, ⟨43, _⟩ => ⟨S_, .f32⟩
  | .hbm, ⟨44, _⟩ => ⟨S_, .f32⟩
  | .hbm, ⟨45, _⟩ => ⟨S16x16384x1024, .i1⟩
  | .hbm, ⟨46, _⟩ => ⟨S16x16384x1024, .f32⟩
  | .hbm, ⟨47, _⟩ => ⟨S16x16384x1024, .f32⟩
  | .hbm, ⟨48, _⟩ => ⟨S16x16384x1024, .f32⟩
  | .hbm, ⟨49, _⟩ => ⟨S_, .f32⟩
  | .hbm, ⟨50, _⟩ => ⟨S16x1024, .f32⟩
  | .hbm, ⟨51, _⟩ => ⟨S_, .i32⟩
  | .hbm, ⟨52, _⟩ => ⟨S16384, .i32⟩
  | .hbm, ⟨53, _⟩ => ⟨S16384, .i1⟩
  | .hbm, ⟨54, _⟩ => ⟨S_, .i32⟩
  | .hbm, ⟨55, _⟩ => ⟨S16384, .i32⟩
  | .hbm, ⟨56, _⟩ => ⟨S16384, .i32⟩
  | .hbm, ⟨57, _⟩ => ⟨S16384, .i32⟩
  | .hbm, ⟨58, _⟩ => ⟨S16384x1, .i32⟩
  | .hbm, ⟨59, _⟩ => ⟨S16384x1024, .f32⟩
  | .hbm, ⟨60, _⟩ => ⟨S16384x1024, .f32⟩
  | .hbm, ⟨61, _⟩ => ⟨S16384x1024, .f32⟩
  | .hbm, ⟨62, _⟩ => ⟨S_, .f32⟩
  | .hbm, ⟨63, _⟩ => ⟨S16x1024, .f32⟩
  | .hbm, ⟨64, _⟩ => ⟨S16384x1, .i32⟩
  | .hbm, ⟨65, _⟩ => ⟨S16x1024, .f32⟩
  | .hbm, ⟨66, _⟩ => ⟨S_, .i32⟩
  | .hbm, ⟨67, _⟩ => ⟨S16384, .i32⟩
  | .hbm, ⟨68, _⟩ => ⟨S16384, .i1⟩
  | .hbm, ⟨69, _⟩ => ⟨S_, .i32⟩
  | .hbm, ⟨70, _⟩ => ⟨S16384, .i32⟩
  | .hbm, ⟨71, _⟩ => ⟨S16384, .i32⟩
  | .hbm, ⟨72, _⟩ => ⟨S16384, .i32⟩
  | .hbm, ⟨73, _⟩ => ⟨S16384x1, .i32⟩
  | .hbm, ⟨74, _⟩ => ⟨S16384x1024, .f32⟩
  | .hbm, ⟨75, _⟩ => ⟨S16384x1024, .f32⟩
  | .hbm, ⟨76, _⟩ => ⟨S16384x1024, .f32⟩
  | .hbm, ⟨77, _⟩ => ⟨S_, .f32⟩
  | .hbm, ⟨78, _⟩ => ⟨S16x1024, .f32⟩
  | .hbm, ⟨79, _⟩ => ⟨S16384x1, .i32⟩
  | .hbm, ⟨80, _⟩ => ⟨S16x1024, .f32⟩
  | .hbm, ⟨81, _⟩ => ⟨S16x1024, .f32⟩
  | .hbm, ⟨82, _⟩ => ⟨S1x1024, .f32⟩
  | .hbm, ⟨83, _⟩ => ⟨S16x1024, .f32⟩
  | .hbm, ⟨84, _⟩ => ⟨S16x1024, .f32⟩
  | .hbm, ⟨85, _⟩ => ⟨S_, .f32⟩
  | .hbm, ⟨86, _⟩ => ⟨S16x1024, .f32⟩
  | .hbm, ⟨87, _⟩ => ⟨S16x1024, .f32⟩
  | .hbm, ⟨88, _⟩ => ⟨S16x512, .f32⟩
  | .hbm, ⟨89, _⟩ => ⟨S1x512, .f32⟩
  | .hbm, ⟨90, _⟩ => ⟨S16x512, .f32⟩
  | .hbm, ⟨91, _⟩ => ⟨S16x512, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_call0_cst : Ref sig .tc := ⟨.hbm, 18, rfl⟩
abbrev main_call0_v0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_call1_cst : Ref sig .tc := ⟨.hbm, 29, rfl⟩
abbrev main_call1_v0 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst : Ref sig .tc := ⟨.hbm, 43, rfl⟩
abbrev main_call2_v0 : Ref sig .tc := ⟨.hbm, 44, rfl⟩
abbrev main_call2_v1 : Ref sig .tc := ⟨.hbm, 45, rfl⟩
abbrev main_call2_v2 : Ref sig .tc := ⟨.hbm, 46, rfl⟩
abbrev main_call2_v3 : Ref sig .tc := ⟨.hbm, 47, rfl⟩
abbrev main_v25 : Ref sig .tc := ⟨.hbm, 48, rfl⟩
abbrev main_cst_0 : Ref sig .tc := ⟨.hbm, 49, rfl⟩
abbrev main_v26 : Ref sig .tc := ⟨.hbm, 50, rfl⟩
abbrev main_c : Ref sig .tc := ⟨.hbm, 51, rfl⟩
abbrev main_v27 : Ref sig .tc := ⟨.hbm, 52, rfl⟩
abbrev main_v28 : Ref sig .tc := ⟨.hbm, 53, rfl⟩
abbrev main_c_1 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_cst_2 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_c_3 : Ref sig .tc := ⟨.hbm, 66, rfl⟩
abbrev main_v39 : Ref sig .tc := ⟨.hbm, 67, rfl⟩
abbrev main_v40 : Ref sig .tc := ⟨.hbm, 68, rfl⟩
abbrev main_c_4 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_cst_5 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_call3_cst : Ref sig .tc := ⟨.hbm, 85, rfl⟩
abbrev main_call3_v0 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩

abbrev nD : Nat := 1
abbrev τ : Topo := Topo.v7x

variable {F : FTy → Type} [FloatOps F]
-- ==== Proof.Softmax.lean ====
/-
  Softmax-weighted sums over the extended reals: what a running maximum keeps, and why its value does not enter the quotient.

  A score is a real number, a value any extended real. `wsum p L v M n` is the sum, over the positions below `n` that `p`
  selects, of `exp(L - M) * v`. Moving the shift `M` multiplies the sum by a positive real; so the quotient of two such sums
  with the same shift does not depend on it, and is the sum of the values weighted by the softmax of the scores.
-/
module

public import Idealize.ShloMosaic.PureOps.Ideal

@[expose] public section

noncomputable section

namespace Cert.Pooling

open Idealize.ShloMosaic
open scoped BigOperators

/-! ## Extended reals -/

/-- The exponential of a difference of two reals is a real. -/
theorem exp_sub (a b : ℝ) : Ideal.exp ((a : EReal) - (b : EReal)) = ((Real.exp (a - b) : ℝ) : EReal) := by
  rw [← EReal.coe_sub]; rfl

/-- A sum times a nonnegative real, term by term. -/
theorem sum_mul_real {ι : Type} (s : Finset ι) (f : ι → EReal) (r : ℝ) (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha, ← ih,
      EReal.right_distrib_of_nonneg_of_ne_top (EReal.coe_nonneg.2 hr) (EReal.coe_ne_top r)]

/-- A sum of reals is the real sum. -/
theorem sum_coe {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A maximum folded over finitely many reals from a real is a real. -/
theorem fold_max_real {ι : Type} (s : Finset ι) (f : ι → EReal) (hf : ∀ i ∈ s, ∃ r : ℝ, f i = (r : EReal)) (b : EReal)
    (hb : b ≠ ⊤) : s.fold max b f ≠ ⊤ := by
  classical
  induction s using Finset.induction_on with
  | empty => simpa using hb
  | insert a s ha ih =>
    rw [Finset.fold_insert ha]
    obtain ⟨r, hr⟩ := hf a (Finset.mem_insert_self a s)
    have := ih fun i hi => hf i (Finset.mem_insert_of_mem hi)
    rcases max_choice (f a) (s.fold max b f) with h | h <;> rw [h]
    · rw [hr]; exact EReal.coe_ne_top r
    · exact this

/-- The maximum, from a real, of finitely many reals is a real. -/
theorem max_fold_real {ι : Type} (s : Finset ι) (f : ι → EReal) (hf : ∀ i ∈ s, ∃ r : ℝ, f i = (r : EReal)) (a : ℝ) :
    ∃ r : ℝ, max (a : EReal) (s.fold max ⊥ f) = (r : EReal) := by
  have h := fold_max_real s f hf ⊥ bot_ne_top
  generalize s.fold max ⊥ f = x at h
  induction x with
  | bot => exact ⟨a, max_eq_left bot_le⟩
  | top => exact (h rfl).elim
  | coe x => exact ⟨max a x, (EReal.coe_strictMono.monotone.map_max (a := a) (b := x)).symm⟩

/-- The maximum over the selected positions, `⊥` elsewhere, is a real as soon as one position is selected. -/
theorem fold_max_select_real {ι : Type} (s : Finset ι) (p : ι → Prop) [DecidablePred p] (L : ι → ℝ) (i : ι) (hi : i ∈ s) (hp : p i) :
    ∃ r : ℝ, s.fold max ⊥ (fun j => if p j then ((L j : ℝ) : EReal) else ⊥) = (r : EReal) := by
  have hle : ((L i : ℝ) : EReal) ≤ s.fold max ⊥ (fun j => if p j then ((L j : ℝ) : EReal) else ⊥) := by
    rw [Finset.le_fold_max]
    exact Or.inr ⟨i, hi, by rw [if_pos hp]⟩
  have hlt : s.fold max ⊥ (fun j => if p j then ((L j : ℝ) : EReal) else ⊥) < ⊤ := by
    rw [Finset.fold_max_lt]
    refine ⟨bot_lt_top, fun j _ => ?_⟩
    split
    · exact EReal.coe_lt_top _
    · exact bot_lt_top
  generalize s.fold max ⊥ (fun j => if p j then ((L j : ℝ) : EReal) else ⊥) = x at hle hlt
  induction x with
  | bot => exact absurd hle (not_le.2 (EReal.bot_lt_coe _))
  | top => exact (lt_irrefl _ hlt).elim
  | coe x => exact ⟨x, rfl⟩

/-! ## The weighted sum and its shift -/

/-- The sum over the positions below `n` that `p` selects of `exp(L - M) * v`. -/
def wsum (p : ℕ → Prop) [DecidablePred p] (L : ℕ → ℝ) (v : ℕ → EReal) (M : ℝ) (n : ℕ) : EReal :=
  ∑ t ∈ Finset.range n, if p t then ((Real.exp (L t - M) : ℝ) : EReal) * v t else 0

variable (p : ℕ → Prop) [DecidablePred p] (L : ℕ → ℝ) (v : ℕ → EReal)

@[simp] theorem wsum_zero (M : ℝ) : wsum p L v M 0 = 0 := rfl

/-- Moving the shift from `M` to `M'` multiplies the sum by `exp(M - M')`. -/
theorem wsum_rescale (M M' : ℝ) (n : ℕ) : wsum p L v M n * Ideal.exp ((M : EReal) - (M' : EReal)) = wsum p L v M' n := by
  rw [exp_sub, wsum, sum_mul_real _ _ _ (Real.exp_pos _).le]
  refine Finset.sum_congr rfl fun t _ => ?_
  split
  · rw [mul_right_comm, ← EReal.coe_mul, ← Real.exp_add]
    congr 3; ring
  · rw [zero_mul]

/-- One tile more: the sum carried so far, rescaled, plus the tile's own sum under the new shift. -/
theorem wsum_step (M M' : ℝ) (a k : ℕ) :
    wsum p L v M a * Ideal.exp ((M : EReal) - (M' : EReal))
      + ∑ j : Fin k, (if p (a + j.val) then Ideal.exp ((L (a + j.val) : EReal) - (M' : EReal)) * v (a + j.val) else 0)
      = wsum p L v M' (a + k) := by
  rw [wsum_rescale, wsum, wsum, Finset.sum_range_add, Finset.sum_range fun x => if p (a + x) then ((Real.exp (L (a + x) - M') : ℝ) : EReal) * v (a + x) else 0]
  exact congrArg _ (Finset.sum_congr rfl fun j _ => by rw [exp_sub])

/-! ## The quotient -/

/-- The real weight sum under the shift `M`. -/
def rsum (M : ℝ) (n : ℕ) : ℝ := ∑ t ∈ Finset.range n, if p t then Real.exp (L t - M) else 0

theorem wsum_one (M : ℝ) (n : ℕ) : wsum p L (fun _ => 1) M n = ((rsum p L M n : ℝ) : EReal) := by
  rw [wsum, rsum, ← sum_coe]
  refine Finset.sum_congr rfl fun t _ => ?_
  split <;> simp

theorem rsum_pos (M : ℝ) (n t : ℕ) (ht : t < n) (hp : p t) : 0 < rsum p L M n := by
  refine Finset.sum_pos' (fun i _ => ?_) ⟨t, Finset.mem_range.2 ht, by rw [if_pos hp]; exact Real.exp_pos _⟩
  split
  · exact (Real.exp_pos _).le
  · exact le_refl _

theorem rsum_rescale (M M' : ℝ) (n : ℕ) : rsum p L M n * Real.exp (M - M') = rsum p L M' n := by
  rw [rsum, rsum, Finset.sum_mul]
  refine Finset.sum_congr rfl fun t _ => ?_
  split
  · rw [← Real.exp_add]; congr 1; ring
  · rw [zero_mul]

/-- Division by a nonzero real is multiplication by its real inverse. -/
theorem div_real (x : EReal) (r : ℝ) (hr : r ≠ 0) : Ideal.div x (r : EReal) = x * ((r⁻¹ : ℝ) : EReal) := by
  unfold Ideal.div
  rw [if_neg (by simpa using hr), EReal.coe_inv]

/-- A softmax weight does not depend on the shift. -/
theorem weight_shift (M M' : ℝ) (n t : ℕ) (hM : rsum p L M n ≠ 0) (hM' : rsum p L M' n ≠ 0) :
    Ideal.div ((Real.exp (L t - M') : ℝ) : EReal) ((rsum p L M' n : ℝ) : EReal)
      = ((Real.exp (L t - M) * (rsum p L M n)⁻¹ : ℝ) : EReal) := by
  rw [div_real _ _ hM', ← EReal.coe_mul]
  have h1 := rsum_rescale p L M M' n
  have h2 : Real.exp (L t - M') = Real.exp (L t - M) * Real.exp (M - M') := by rw [← Real.exp_add]; congr 1; ring
  have h3 := (Real.exp_pos (M - M')).ne'
  congr 1
  rw [← h1, h2]
  field_simp

/-- THE QUOTIENT. The carried weighted sum over the carried weight sum, zero where no position is selected, is the sum of the
    values each times its softmax weight, computed under any other shift `M'`. -/
theorem pooled_eq (M M' : ℝ) (n : ℕ) :
    (if 0 < wsum p L (fun _ => 1) M n then Ideal.div (wsum p L v M n) (wsum p L (fun _ => 1) M n) else 0)
      = ∑ t ∈ Finset.range n, if p t then
          v t * Ideal.div ((Real.exp (L t - M') : ℝ) : EReal) (wsum p L (fun _ => 1) M' n) else 0 := by
  by_cases h : ∃ t, t < n ∧ p t
  · obtain ⟨t₀, ht₀, hp₀⟩ := h
    have hM := rsum_pos p L M n t₀ ht₀ hp₀
    have hM' := rsum_pos p L M' n t₀ ht₀ hp₀
    simp only [wsum_one]
    rw [if_pos (by exact_mod_cast hM), div_real _ _ hM.ne', wsum, sum_mul_real _ _ _ (inv_nonneg.2 hM.le)]
    refine Finset.sum_congr rfl fun t _ => ?_
    split
    · rw [weight_shift p L M M' n t hM.ne' hM'.ne', mul_right_comm, ← EReal.coe_mul, mul_comm]
    · rw [zero_mul]
  · have hn : ∀ t ∈ Finset.range n, ¬p t := fun t ht hp => h ⟨t, Finset.mem_range.1 ht, hp⟩
    rw [if_neg]
    · exact (Finset.sum_eq_zero fun t ht => if_neg (hn t ht)).symm
    · rw [wsum, Finset.sum_eq_zero fun t ht => if_neg (hn t ht)]
      exact lt_irrefl _

end Cert.Pooling

end
-- ==== Proof.Mlp.lean ====
/-
  A layer of two linear maps with a rectifier between them, on one row; and that it takes real numbers to real numbers.
-/
module

public import Idealize.ShloMosaic.PureOps.Ideal

@[expose] public section

noncomputable section

namespace Cert.Pooling

open scoped BigOperators

/-- `max(x W0 + b0, 0) W1 + b1` at column `d`, for one row `x`. -/
def mlp {a b k : ℕ} (x : Fin a → EReal) (W0 : Fin a → Fin b → EReal) (b0 : Fin b → EReal) (W1 : Fin b → Fin k → EReal)
    (b1 : Fin k → EReal) (d : Fin k) : EReal :=
  (∑ j, max ((∑ i, x i * W0 i j) + b0 j) 0 * W1 j d) + b1 d

/-- `x` is a real number. -/
def IsReal (x : EReal) : Prop := ∃ r : ℝ, x = (r : EReal)

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.max_zero {x : EReal} (hx : IsReal x) : IsReal (max x 0) := by
  rcases max_choice x 0 with h | h <;> rw [h]
  · exact hx
  · exact ⟨0, rfl⟩

theorem IsReal.sum {n : ℕ} {f : Fin n → EReal} (hf : ∀ i, IsReal (f i)) : IsReal (∑ i, f i) := by
  classical
  refine Finset.sum_induction f IsReal (fun _ _ => IsReal.add) ⟨0, rfl⟩ fun i _ => hf i

/-- The layer takes reals to reals. -/
theorem mlp_real {a b k : ℕ} {x : Fin a → EReal} {W0 : Fin a → Fin b → EReal} {b0 : Fin b → EReal} {W1 : Fin b → Fin k → EReal}
    {b1 : Fin k → EReal} (hx : ∀ i, IsReal (x i)) (hW0 : ∀ i j, IsReal (W0 i j)) (hb0 : ∀ j, IsReal (b0 j))
    (hW1 : ∀ j d, IsReal (W1 j d)) (hb1 : ∀ d, IsReal (b1 d)) (d : Fin k) : IsReal (mlp x W0 b0 W1 b1 d) :=
  (IsReal.sum fun j => (((IsReal.sum fun i => (hx i).mul (hW0 i j)).add (hb0 j)).max_zero).mul (hW1 j d)).add (hb1 d)

end Cert.Pooling

end
-- ==== Proof.Pooled.lean ====
/-
  The problem's own quantities, over its argument arrays: a token's two layers, which tokens a segment holds, and the
  softmax-weighted sum of a segment's values in one column.
-/
module

public import proofs.«01_k».proof.Proof.Softmax
public import proofs.«01_k».proof.Proof.Mlp
public import Idealize.ShloMosaic.Lib.Pointwise

@[expose] public section

noncomputable section

namespace Cert.Pooling

open Idealize.ShloMosaic
open scoped BigOperators

/-- A matrix and a vector of extended reals, as the programs hold them. -/
abbrev Mat (a b : ℕ) := Vec Ideal ⟨2, ![a, b]⟩ .f32
abbrev Row (a : ℕ) := Vec Ideal ⟨1, ![a]⟩ .f32

/-- The token at position `n`. -/
def tok (n : ℕ) : Fin 16384 := Fin.ofNat 16384 n

theorem tok_of_lt (n : ℕ) (h : n < 16384) : tok n = ⟨n, h⟩ := Fin.ext (Nat.mod_eq_of_lt h)

theorem tok_val (t : Fin 16384) : tok t.val = t := tok_of_lt t.val t.isLt

/-- A layer on the token at position `n`, at column `d`. -/
def tokMlp (x : Mat 16384 1024) (W0 : Mat 1024 2048) (b0 : Row 2048) (W1 : Mat 2048 1024) (b1 : Row 1024) (d : Fin 1024) (n : ℕ) : EReal :=
  mlp (fun i => x (ix2 (tok n) i)) (fun i j => W0 (ix2 i j)) (fun j => b0 (ix1 j)) (fun j d => W1 (ix2 j d)) (fun d => b1 (ix1 d)) d

/-- The layer of a real token with real weights is a real number. -/
theorem tokMlp_real {x : Mat 16384 1024} {W0 : Mat 1024 2048} {b0 : Row 2048} {W1 : Mat 2048 1024} {b1 : Row 1024}
    (hx : ∀ i, IsReal (x i)) (hW0 : ∀ i, IsReal (W0 i)) (hb0 : ∀ i, IsReal (b0 i)) (hW1 : ∀ i, IsReal (W1 i))
    (hb1 : ∀ i, IsReal (b1 i)) (d : Fin 1024) (n : ℕ) : IsReal (tokMlp x W0 b0 W1 b1 d n) :=
  mlp_real (fun _ => hx _) (fun _ _ => hW0 _) (fun _ => hb0 _) (fun _ _ => hW1 _) (fun _ => hb1 _) d

/-- The token at position `n` is in segment `s`. -/
def inSeg (ids : IVec ⟨1, ![16384]⟩ 32) (s : Fin 16) (n : ℕ) : Prop := ids (ix1 (tok n)) = BitVec.ofNat 32 s.val

instance (ids : IVec ⟨1, ![16384]⟩ 32) (s : Fin 16) : DecidablePred (inSeg ids s) := fun _ => inferInstanceAs (Decidable (_ = _))

/-- The values of the selected positions below `n`, each times its softmax weight among them. -/
def pooled (p : ℕ → Prop) [DecidablePred p] (L : ℕ → ℝ) (v : ℕ → EReal) (n : ℕ) : EReal :=
  ∑ t ∈ Finset.range n, if p t then v t * Ideal.div ((Real.exp (L t - 0) : ℝ) : EReal) (wsum p L (fun _ => 1) 0 n) else 0

/-- The quotient of the two sums, under any shift, is the weighted sum. -/
theorem pooled_of_quotient (p : ℕ → Prop) [DecidablePred p] (L : ℕ → ℝ) (v : ℕ → EReal) (M : ℝ) (n : ℕ) :
    (if 0 < wsum p L (fun _ => 1) M n then Ideal.div (wsum p L v M n) (wsum p L (fun _ => 1) M n) else 0) = pooled p L v n :=
  pooled_eq p L v M 0 n

/-- The softmax may be computed under any shift. -/
theorem pooled_of_shift (p : ℕ → Prop) [DecidablePred p] (L : ℕ → ℝ) (v : ℕ → EReal) (M : ℝ) (n : ℕ) :
    (∑ t ∈ Finset.range n, if p t then v t * Ideal.div ((Real.exp (L t - M) : ℝ) : EReal) (wsum p L (fun _ => 1) M n) else 0)
      = pooled p L v n :=
  (pooled_eq p L v 0 M n).symm.trans (pooled_eq p L v 0 0 n)

/-- The result: the last layer on the pooled values of segment `s`. -/
def answer (x : Mat 16384 1024) (ids : IVec ⟨1, ![16384]⟩ 32) (W10 : Mat 1024 2048) (b10 : Row 2048) (W11 : Mat 2048 1024)
    (b11 : Row 1024) (W20 : Mat 1024 2048) (b20 : Row 2048) (W21 : Mat 2048 1024) (b21 : Row 1024) (W30 : Mat 1024 1024)
    (b30 : Row 1024) (W31 : Mat 1024 512) (b31 : Row 512) (s : Fin 16) (d : Fin 512) : EReal :=
  mlp (fun k => pooled (inSeg ids s) (fun n => (tokMlp x W20 b20 W21 b21 k n).toReal) (tokMlp x W10 b10 W11 b11 k) 16384)
    (fun i j => W30 (ix2 i j)) (fun j => b30 (ix1 j)) (fun j d => W31 (ix2 j d)) (fun d => b31 (ix1 d)) d

end Cert.Pooling

end
-- ==== Proof.Blocks.lean ====
/-
  The block each window hands to grid point `t`, read at an entry of the argument it comes from: the token tile is rows
  `512 t … 512 t + 511` of `x`, the segment tile the same rows of the segment ids, and every weight or bias is whole.
-/
module

public import proofs.«01_k».proof.Proof.Gen.KernelIdeal.Value
public import Idealize.ShloMosaic.Lib.Pipeline.ValueKit
public import Idealize.ShloMosaic.Lib.Pointwise

@[expose] public section

set_option maxRecDepth 16384

noncomputable section

namespace Cert.Pooling

open Idealize.ShloMosaic Idealize.ShloMosaic.TcCoe
open Cert.KernelIdeal Cert.KernelIdeal.Gen

variable (m : (ℓ : Loc nD τ sig) → Buf (Elt Ideal) ℓ) (c : Dev nD)

/-- Where each window's block stands at point `t`. -/
theorem places : ∀ t : Fin cfg0.N, win0_0.index t = ![t.val, 0] ∧ win0_1.index t = ![t.val, 0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0]
    ∧ win0_11.index t = ![0, 0] ∧ win0_12.index t = ![0, 0] ∧ win0_13.index t = ![0, 0] :=
  (by decide +kernel : ∀ t : Fin grid0.N, _)

variable (t : Fin cfg0.N)

/-- Row `r` of tile `t` is a row of `x`. -/
theorem row_lt (r : Fin 512) : 512 * t.val + r.val < 16384 := by
  have := lt_of_lt_of_eq t.isLt N_0
  omega

theorem blk_x (r : Fin 512) (i : Fin 1024) :
    (iblk m c 0 t : Vec Ideal S512x1024 .f32) (ix2 r i)
      = (m ((c : Thread nD τ).loc main_arg0) : Vec Ideal S16384x1024 .f32) (ix2 ⟨512 * t.val + r.val, row_lt t r⟩ i) := by
  blk_ext [iblk, V, places t]

theorem blk_seg (r : Fin 512) :
    (iblk m c 1 t : Vec Ideal S1x512x1 .i32) (ix3 0 r 0)
      = (m ((c : Thread nD τ).loc main_arg1) : Vec Ideal S16384 .i32) (ix1 ⟨512 * t.val + r.val, row_lt t r⟩) := by
  blk_ext! [iblk, V, places t]

/-! The weights of the three layers, whole, and their biases, each handed over as one row. -/

theorem blk_W10 : (iblk m c 2 t : Vec Ideal S1024x2048 .f32) = m ((c : Thread nD τ).loc main_arg2) := by
  blk_ext! [iblk, V, places t]
theorem blk_b10 (k : Fin 2048) :
    (iblk m c 3 t : Vec Ideal S1x2048 .f32) (ix2 0 k) = (m ((c : Thread nD τ).loc main_arg3) : Vec Ideal S2048 .f32) (ix1 k) := by
  blk_ext! [iblk, V, places t]
theorem blk_W11 : (iblk m c 4 t : Vec Ideal S2048x1024 .f32) = m ((c : Thread nD τ).loc main_arg4) := by
  blk_ext! [iblk, V, places t]
theorem blk_b11 (k : Fin 1024) :
    (iblk m c 5 t : Vec Ideal S1x1024 .f32) (ix2 0 k) = (m ((c : Thread nD τ).loc main_arg5) : Vec Ideal S1024 .f32) (ix1 k) := by
  blk_ext! [iblk, V, places t]
theorem blk_W20 : (iblk m c 6 t : Vec Ideal S1024x2048 .f32) = m ((c : Thread nD τ).loc main_arg6) := by
  blk_ext! [iblk, V, places t]
theorem blk_b20 (k : Fin 2048) :
    (iblk m c 7 t : Vec Ideal S1x2048 .f32) (ix2 0 k) = (m ((c : Thread nD τ).loc main_arg7) : Vec Ideal S2048 .f32) (ix1 k) := by
  blk_ext! [iblk, V, places t]
theorem blk_W21 : (iblk m c 8 t : Vec Ideal S2048x1024 .f32) = m ((c : Thread nD τ).loc main_arg8) := by
  blk_ext! [iblk, V, places t]
theorem blk_b21 (k : Fin 1024) :
    (iblk m c 9 t : Vec Ideal S1x1024 .f32) (ix2 0 k) = (m ((c : Thread nD τ).loc main_arg9) : Vec Ideal S1024 .f32) (ix1 k) := by
  blk_ext! [iblk, V, places t]
theorem blk_W30 : (iblk m c 10 t : Vec Ideal S1024x1024 .f32) = m ((c : Thread nD τ).loc main_arg10) := by
  blk_ext! [iblk, V, places t]
theorem blk_b30 (k : Fin 1024) :
    (iblk m c 11 t : Vec Ideal S1x1024 .f32) (ix2 0 k) = (m ((c : Thread nD τ).loc main_arg11) : Vec Ideal S1024 .f32) (ix1 k) := by
  blk_ext! [iblk, V, places t]
theorem blk_W31 : (iblk m c 12 t : Vec Ideal S1024x512 .f32) = m ((c : Thread nD τ).loc main_arg12) := by
  blk_ext! [iblk, V, places t]
theorem blk_b31 (k : Fin 512) :
    (iblk m c 13 t : Vec Ideal S1x512 .f32) (ix2 0 k) = (m ((c : Thread nD τ).loc main_arg13) : Vec Ideal S512 .f32) (ix1 k) := by
  blk_ext! [iblk, V, places t]

end Cert.Pooling

end
-- ==== Proof.Step.lean ====
/-
  One grid point of the kernel as a function of its tile: what it leaves in the running maximum, in the weight sums and in the
  weighted value sums, over what the point before left there; and what the last point stores as the result.
-/
module

public import proofs.«01_k».proof.Proof.Gen.KernelIdeal.Value
public import Idealize.ShloMosaic.Lib.Pipeline.ValueKit

@[expose] public section

set_option maxRecDepth 16384

noncomputable section

namespace Cert.Pooling

open Idealize.ShloMosaic Idealize.ShloMosaic.TcCoe
open Cert.KernelIdeal Cert.KernelIdeal.Gen

variable {F : FTy → Type} [FloatOps F]
variable (m : (ℓ : Loc nD τ sig) → Buf (Elt F) ℓ)

/-- The new running maximum. -/
def stepM (x0 : Vec F S512x1024 .f32) (x6 : Vec F S1024x2048 .f32) (x7 : Vec F S1x2048 .f32) (x8 : Vec F S2048x1024 .f32)
    (x9 : Vec F S1x1024 .f32) (mx : Vec F S1x1024 .f32) : Vec F S1x1024 .f32 :=
  k0_pay14 (k0_pay8 x0 x6 x7) (k0_pay9 x8) (constant S512x1024 .f32 0x00000000#32) x9 mx

/-- The new weight sums. -/
def stepL (x0 : Vec F S512x1024 .f32) (x1 : Vec F S1x512x1 .i32) (x6 : Vec F S1024x2048 .f32) (x7 : Vec F S1x2048 .f32)
    (x8 : Vec F S2048x1024 .f32) (x9 : Vec F S1x1024 .f32) (mx : Vec F S1x1024 .f32) (l : Vec F S16x1024 .f32) : Vec F S16x1024 .f32 :=
  k0_pay16 (k0_pay8 x0 x6 x7) (k0_pay9 x8) (constant S512x1024 .f32 0x00000000#32) x9 x1 mx l

/-- The new weighted value sums. -/
def stepQ (x0 : Vec F S512x1024 .f32) (x1 : Vec F S1x512x1 .i32) (x2 : Vec F S1024x2048 .f32) (x3 : Vec F S1x2048 .f32)
    (x4 : Vec F S2048x1024 .f32) (x5 : Vec F S1x1024 .f32) (x6 : Vec F S1024x2048 .f32) (x7 : Vec F S1x2048 .f32)
    (x8 : Vec F S2048x1024 .f32) (x9 : Vec F S1x1024 .f32) (mx : Vec F S1x1024 .f32) (q : Vec F S16x1024 .f32) : Vec F S16x1024 .f32 :=
  k0_pay1 (k0_pay17 (k0_pay7 x0 x2 x3 x4 x5) (k0_pay8 x0 x6 x7) (k0_pay9 x8) (constant S512x1024 .f32 0x00000000#32) x9 x1 mx q)

/-- The three carried arrays after point `t`, over what they held before. -/
def stepAt (c : Dev nD) (t : Fin cfg0.N) (s : Vec F S1x1024 .f32 × Vec F S16x1024 .f32 × Vec F S16x1024 .f32) :
    Vec F S1x1024 .f32 × Vec F S16x1024 .f32 × Vec F S16x1024 .f32 :=
  (stepM (iblk m c 0 t) (iblk m c 6 t) (iblk m c 7 t) (iblk m c 8 t) (iblk m c 9 t) s.1,
   stepL (iblk m c 0 t) (iblk m c 1 t) (iblk m c 6 t) (iblk m c 7 t) (iblk m c 8 t) (iblk m c 9 t) s.1 s.2.1,
   stepQ (iblk m c 0 t) (iblk m c 1 t) (iblk m c 2 t) (iblk m c 3 t) (iblk m c 4 t) (iblk m c 5 t) (iblk m c 6 t) (iblk m c 7 t)
     (iblk m c 8 t) (iblk m c 9 t) s.1 s.2.2)

/-- A carried array written whole and read back whole is what was written. -/
theorem read_max (h : scM0_0.IsWhole) (x : Vec F S1x1024 .f32) : View.read (Elt F) (View.whole cc0_scratch0) (h.unread x) = x :=
  h.read_unread x
theorem read_weights (h : scM0_1.IsWhole) (x : Vec F S16x1024 .f32) : View.read (Elt F) (View.whole cc0_scratch1) (h.unread x) = x :=
  h.read_unread x
theorem read_values (h : scM0_2.IsWhole) (x : Vec F S16x1024 .f32) : View.read (Elt F) (View.whole cc0_scratch2) (h.unread x) = x :=
  h.read_unread x

/-- The first point: the step over the reset arrays. -/
theorem st_first (c : Dev nD) (t : Fin cfg0.N) (acc) (h0 : t.val % 32 = 0) (h1 : ¬t.val % 32 = 31) :
    (Value.stAt0 m c t.val t.isLt acc).2 = stepAt m c t (k0_pay3, k0_pay4, k0_pay5) := by
  rw [Value.stAt0_A m c t acc h0 h1]
  refine Prod.ext ?_ (Prod.ext ?_ ?_) <;> dsimp only [stepAt, stepM, stepL, stepQ]
  · frame_out
  · frame_out
  · frame_out

/-- A middle point: the step over what the point before left. -/
theorem st_middle (c : Dev nD) (t : Fin cfg0.N) (acc) (h0 : ¬t.val % 32 = 0) (h1 : ¬t.val % 32 = 31) :
    (Value.stAt0 m c t.val t.isLt acc).2 = stepAt m c t acc.2 := by
  rw [Value.stAt0_B m c t acc h0 h1]
  refine Prod.ext ?_ (Prod.ext ?_ ?_) <;> dsimp only [stepAt, stepM, stepL, stepQ]
  · frame_out; rw [read_max]
  · frame_out; rw [read_max, read_weights]
  · frame_out; rw [read_max, read_values]

/-- The last point stores the result, computed from the sums it has just updated. -/
theorem st_last (c : Dev nD) (t : Fin cfg0.N) (acc) (h0 : ¬t.val % 32 = 0) (h1 : t.val % 32 = 31) :
    (Value.stAt0 m c t.val t.isLt acc).1
      = k0_pay2 (stepAt m c t acc.2).2.1 (stepAt m c t acc.2).2.2 (iblk m c 10 t) (iblk m c 11 t) (iblk m c 12 t) (iblk m c 13 t) := by
  rw [Value.stAt0_C m c t acc h0 h1]
  dsimp only [stepAt, stepM, stepL, stepQ]
  frame_out
  simp only [read_max, read_weights, read_values]

end Cert.Pooling

end
-- ==== Proof.Words.lean ====
/-
  The constants and the integer comparisons of both programs, as extended reals and as conditions.
-/
module

public import proofs.«01_k».proof.Proof.Mlp
public import Idealize.ShloMosaic.Lib.WordCmp
public import Idealize.ShloMosaic.Lib.Pointwise

@[expose] public section

noncomputable section

namespace Cert.Pooling

open Idealize.ShloMosaic

/-- The word of minus infinity is `⊥`. -/
theorem word_bot : Ideal.ofBits .f32 0xFF800000#32 = ⊥ := by simp [Ideal.ofBits, Ideal.ieee]

/-- The word of plus infinity is `⊤`. -/
theorem word_top : Ideal.ofBits .f32 0x7F800000#32 = ⊤ := by simp [Ideal.ofBits, Ideal.ieee]

/-- The word the running maximum starts from, `-1e30`, is a real number. -/
theorem word_start_real : IsReal (Ideal.ofBits .f32 0xF149F2CA#32) := by
  unfold Ideal.ofBits Ideal.ieee
  simp only []
  rw [if_neg (by decide), if_neg (by decide)]
  exact ⟨_, rfl⟩

/-- An equality test of words, widened and read as a number, is one where they agree and zero elsewhere. -/
theorem onehot_word (a b : BitVec 32) :
    (FloatOps.sitofp .f32 (BitVec.setWidth 32 (IntOp.cmpi .eq a b)) : Ideal .f32) = if a = b then (1 : EReal) else 0 := by
  rw [WordCmp.cmpi_eq_eq]
  show (((BitVec.setWidth 32 (BitVec.ofBool (decide (a = b)))).toInt : ℝ) : EReal) = _
  by_cases h : a = b
  · rw [if_pos h, decide_eq_true h, show (BitVec.setWidth 32 (BitVec.ofBool true)).toInt = 1 by decide]
    norm_num
  · rw [if_neg h, decide_eq_false h, show (BitVec.setWidth 32 (BitVec.ofBool false)).toInt = 0 by decide]
    norm_num

/-- A choice by an equality test of words. -/
theorem select_eq {α : Type} (a b : BitVec 32) (x y : α) : Scalar.select (IntOp.cmpi .eq a b) x y = if a = b then x else y := by
  rw [WordCmp.cmpi_eq_eq]
  by_cases h : a = b
  · rw [if_pos h, decide_eq_true h]; rfl
  · rw [if_neg h, decide_eq_false h]; rfl

/-- A choice by a strict comparison of extended reals. -/
theorem select_gt {α : Type} (a b : EReal) (x y : α) : Scalar.select (Ideal.cmp .ogt a b) x y = if b < a then x else y := by
  have h : Ideal.cmp .ogt a b = BitVec.ofBool (decide (b < a)) := rfl
  rw [h]
  by_cases h : b < a
  · rw [if_pos h, decide_eq_true h]; rfl
  · rw [if_neg h, decide_eq_false h]; rfl

end Cert.Pooling

end
-- ==== Proof.Tile.lean ====
/-
  One grid point read at an entry over the extended reals: the tile's values and scores are the two layers on its rows, the running
  maximum takes the tile's maximum in, and each carried sum is rescaled and adds the terms of the rows in its segment.
-/
module

public import proofs.«01_k».proof.Proof.Step
public import proofs.«01_k».proof.Proof.Words
public import Idealize.ShloMosaic.Lib.Pointwise

@[expose] public section

set_option maxRecDepth 16384

noncomputable section

namespace Cert.Pooling

open Idealize.ShloMosaic Idealize.ShloMosaic.TcCoe
open Cert.KernelIdeal Cert.KernelIdeal.Gen
open scoped BigOperators

/-- The layer on row `r` of a tile, the biases given as one row. -/
def tileMlp (x : Vec Ideal S512x1024 .f32) (W0 : Vec Ideal S1024x2048 .f32) (b0 : Vec Ideal S1x2048 .f32)
    (W1 : Vec Ideal S2048x1024 .f32) (b1 : Vec Ideal S1x1024 .f32) (r : Fin 512) (d : Fin 1024) : EReal :=
  mlp (fun i => x (ix2 r i)) (fun i j => W0 (ix2 i j)) (fun j => b0 (ix2 0 j)) (fun j d => W1 (ix2 j d)) (fun d => b1 (ix2 0 d)) d

variable (x : Vec Ideal S512x1024 .f32) (seg : Vec Ideal S1x512x1 .i32) (W0 : Vec Ideal S1024x2048 .f32) (b0 : Vec Ideal S1x2048 .f32)
  (W1 : Vec Ideal S2048x1024 .f32) (b1 : Vec Ideal S1x1024 .f32) (U0 : Vec Ideal S1024x2048 .f32) (c0 : Vec Ideal S1x2048 .f32)
  (U1 : Vec Ideal S2048x1024 .f32) (c1 : Vec Ideal S1x1024 .f32) (mx : Vec Ideal S1x1024 .f32) (l q : Vec Ideal S16x1024 .f32)

theorem tile_values (r : Fin 512) (d : Fin 1024) : k0_pay7 x W0 b0 W1 b1 (ix2 r d) = tileMlp x W0 b0 W1 b1 r d := by
  pointwise [k0_pay7, k0_pay6, tileMlp, mlp]

theorem tile_scores (r : Fin 512) (d : Fin 1024) :
    k0_pay10 (k0_pay8 x W0 b0) (k0_pay9 W1) (constant S512x1024 .f32 0x00000000#32) b1 (ix2 r d) = tileMlp x W0 b0 W1 b1 r d := by
  pointwise [k0_pay10, k0_pay9, k0_pay8, k0_pay6, tileMlp, mlp]

theorem tile_onehot (r : Fin 512) (s : Fin 16) :
    k0_pay11 (F := Ideal) seg (ix2 r s) = if seg (ix3 0 r 0) = BitVec.ofNat 32 s.val then (1 : EReal) else 0 := by
  pointwise [k0_pay11]
  exact onehot_word _ _

/-- The maximum over the tile, taken into the running maximum. -/
theorem tile_max (d : Fin 1024) : stepM x W0 b0 W1 b1 mx (ix2 0 d)
    = max (mx (ix2 0 d)) (Finset.univ.fold max ⊥ fun r : Fin 512 => tileMlp x W0 b0 W1 b1 r d) := by
  simp only [← tile_scores]
  unfold stepM k0_pay14 k0_pay12
  pointwise
  rw [word_bot]

/-- The new running maximum, before it is stored, is the stored one. -/
theorem tile_max_word (d : Fin 1024) :
    k0_pay12 (k0_pay8 x W0 b0) (k0_pay9 W1) (constant S512x1024 .f32 0x00000000#32) b1 mx (ix2 0 d) = stepM x W0 b0 W1 b1 mx (ix2 0 d) := by
  unfold stepM k0_pay14
  pointwise

/-- A term of a one-hot product is the term where the row is in the segment, zero elsewhere. -/
theorem onehot_mul (p : Prop) [Decidable p] (y : EReal) : (if p then (1 : EReal) else 0) * y = if p then y else 0 := by
  split
  · exact one_mul y
  · exact zero_mul y

/-- The exponential of a row's score under the new maximum. -/
theorem tile_exp (r : Fin 512) (d : Fin 1024) :
    k0_pay15 (k0_pay8 x W0 b0) (k0_pay9 W1) (constant S512x1024 .f32 0x00000000#32) b1 mx (ix2 r d)
      = Ideal.exp (tileMlp x W0 b0 W1 b1 r d - stepM x W0 b0 W1 b1 mx (ix2 0 d)) := by
  rw [← tile_scores, ← tile_max_word]
  unfold k0_pay15
  pointwise

/-- The factor by which the carried sums are rescaled. -/
theorem tile_factor (d : Fin 1024) :
    k0_pay13 (k0_pay8 x W0 b0) (k0_pay9 W1) (constant S512x1024 .f32 0x00000000#32) b1 mx (ix2 0 d)
      = Ideal.exp (mx (ix2 0 d) - stepM x W0 b0 W1 b1 mx (ix2 0 d)) := by
  rw [← tile_max_word]
  unfold k0_pay13
  pointwise

theorem tile_weights (s : Fin 16) (d : Fin 1024) : stepL x seg W0 b0 W1 b1 mx l (ix2 s d)
    = l (ix2 s d) * Ideal.exp (mx (ix2 0 d) - stepM x W0 b0 W1 b1 mx (ix2 0 d))
      + ∑ r : Fin 512, (if seg (ix3 0 r 0) = BitVec.ofNat 32 s.val
          then Ideal.exp (tileMlp x W0 b0 W1 b1 r d - stepM x W0 b0 W1 b1 mx (ix2 0 d)) else 0) := by
  have h : stepL x seg W0 b0 W1 b1 mx l (ix2 s d)
      = l (ix2 s d) * k0_pay13 (k0_pay8 x W0 b0) (k0_pay9 W1) (constant S512x1024 .f32 0x00000000#32) b1 mx (ix2 0 d)
        + ∑ r : Fin 512, k0_pay11 (F := Ideal) seg (ix2 r s)
          * k0_pay15 (k0_pay8 x W0 b0) (k0_pay9 W1) (constant S512x1024 .f32 0x00000000#32) b1 mx (ix2 r d) := by
    unfold stepL k0_pay16
    pointwise
  rw [h, tile_factor]
  simp only [tile_exp, tile_onehot, onehot_mul]

theorem tile_sums (s : Fin 16) (d : Fin 1024) : stepQ x seg W0 b0 W1 b1 U0 c0 U1 c1 mx q (ix2 s d)
    = q (ix2 s d) * Ideal.exp (mx (ix2 0 d) - stepM x U0 c0 U1 c1 mx (ix2 0 d))
      + ∑ r : Fin 512, (if seg (ix3 0 r 0) = BitVec.ofNat 32 s.val
          then Ideal.exp (tileMlp x U0 c0 U1 c1 r d - stepM x U0 c0 U1 c1 mx (ix2 0 d)) * tileMlp x W0 b0 W1 b1 r d else 0) := by
  have h : stepQ x seg W0 b0 W1 b1 U0 c0 U1 c1 mx q (ix2 s d)
      = q (ix2 s d) * k0_pay13 (k0_pay8 x U0 c0) (k0_pay9 U1) (constant S512x1024 .f32 0x00000000#32) c1 mx (ix2 0 d)
        + ∑ r : Fin 512, k0_pay11 (F := Ideal) seg (ix2 r s)
          * (k0_pay15 (k0_pay8 x U0 c0) (k0_pay9 U1) (constant S512x1024 .f32 0x00000000#32) c1 mx (ix2 r d)
            * k0_pay7 x W0 b0 W1 b1 (ix2 r d)) := by
    unfold stepQ k0_pay1 k0_pay17
    pointwise
  rw [h, tile_factor]
  simp only [tile_exp, tile_values, tile_onehot, onehot_mul]

/-- What the last point stores: the last layer on the quotients of the carried sums, zero where a weight sum is not positive. -/
theorem tile_result (V0 : Vec Ideal S1024x1024 .f32) (e0 : Vec Ideal S1x1024 .f32) (V1 : Vec Ideal S1024x512 .f32)
    (e1 : Vec Ideal S1x512 .f32) (s : Fin 16) (d : Fin 512) : k0_pay2 l q V0 e0 V1 e1 (ix2 s d)
      = mlp (fun k => if 0 < l (ix2 s k) then Ideal.div (q (ix2 s k)) (l (ix2 s k)) else 0) (fun i j => V0 (ix2 i j))
          (fun j => e0 (ix2 0 j)) (fun j d => V1 (ix2 j d)) (fun d => e1 (ix2 0 d)) d := by
  simp only [← select_gt]
  pointwise [k0_pay2, mlp]

/-- What the three carried arrays are reset to. -/
theorem reset_max (d : Fin 1024) : k0_pay3 (F := Ideal) (ix2 0 d) = Ideal.ofBits .f32 0xF149F2CA#32 := by
  pointwise [k0_pay3]
theorem reset_weights (s : Fin 16) (d : Fin 1024) : k0_pay4 (F := Ideal) (ix2 s d) = 0 := by
  pointwise [k0_pay4]
theorem reset_sums (s : Fin 16) (d : Fin 1024) : k0_pay5 (F := Ideal) (ix2 s d) = 0 := by
  pointwise [k0_pay5]

end Cert.Pooling

end
-- ==== Proof.Fold.lean ====
/-
  The kernel over its grid. After point `t` the carried arrays hold, in each column, a real shift and the two sums over the
  tokens of the tiles so far under that shift; the last point's quotient is then the softmax-weighted sum over all tokens.
-/
module

public import proofs.«01_k».proof.Proof.Pooled
public import proofs.«01_k».proof.Proof.Blocks
public import proofs.«01_k».proof.Proof.Tile

@[expose] public section

set_option maxRecDepth 16384

noncomputable section

namespace Cert.Pooling

open Idealize.ShloMosaic Idealize.ShloMosaic.TcCoe
open Cert.KernelIdeal Cert.KernelIdeal.Gen
open scoped BigOperators

/-! ## One tile, over blocks that hold the tokens `a … a + 511` -/

section Tile

variable {x : Vec Ideal S512x1024 .f32} {seg : Vec Ideal S1x512x1 .i32} {W0 : Vec Ideal S1024x2048 .f32} {b0 : Vec Ideal S1x2048 .f32}
  {W1 : Vec Ideal S2048x1024 .f32} {b1 : Vec Ideal S1x1024 .f32} {U0 : Vec Ideal S1024x2048 .f32} {c0 : Vec Ideal S1x2048 .f32}
  {U1 : Vec Ideal S2048x1024 .f32} {c1 : Vec Ideal S1x1024 .f32} {mx : Vec Ideal S1x1024 .f32} {l q : Vec Ideal S16x1024 .f32}
  {p : ℕ → Prop} [DecidablePred p] {L : ℕ → ℝ} {v : ℕ → EReal} {a : ℕ} {M M' : ℝ} {s : Fin 16} {d : Fin 1024}

/-- The weight sum takes the tile's tokens in. -/
theorem weights_step (hp : ∀ r : Fin 512, seg (ix3 0 r 0) = BitVec.ofNat 32 s.val ↔ p (a + r.val))
    (hL : ∀ r, tileMlp x U0 c0 U1 c1 r d = ((L (a + r.val) : ℝ) : EReal)) (hM : mx (ix2 0 d) = (M : EReal))
    (hM' : stepM x U0 c0 U1 c1 mx (ix2 0 d) = (M' : EReal)) (hl : l (ix2 s d) = wsum p L (fun _ => 1) M a) :
    stepL x seg U0 c0 U1 c1 mx l (ix2 s d) = wsum p L (fun _ => 1) M' (a + 512) := by
  rw [tile_weights, hM, hM', hl, ← wsum_step p L _ M M' a 512]
  simp only [hL, mul_one, if_congr (hp _) rfl rfl]

/-- The weighted value sum takes the tile's tokens in. -/
theorem sums_step (hp : ∀ r : Fin 512, seg (ix3 0 r 0) = BitVec.ofNat 32 s.val ↔ p (a + r.val))
    (hL : ∀ r, tileMlp x U0 c0 U1 c1 r d = ((L (a + r.val) : ℝ) : EReal)) (hv : ∀ r, tileMlp x W0 b0 W1 b1 r d = v (a + r.val))
    (hM : mx (ix2 0 d) = (M : EReal)) (hM' : stepM x U0 c0 U1 c1 mx (ix2 0 d) = (M' : EReal)) (hq : q (ix2 s d) = wsum p L v M a) :
    stepQ x seg W0 b0 W1 b1 U0 c0 U1 c1 mx q (ix2 s d) = wsum p L v M' (a + 512) := by
  rw [tile_sums, hM, hM', hq, ← wsum_step p L _ M M' a 512]
  simp only [hL, hv, if_congr (hp _) rfl rfl]

end Tile

/-! ## The grid -/

variable (m : (ℓ : Loc nD τ sig) → Buf (Elt Ideal) ℓ) (c : Dev nD)

/-- The token's value and score layers, and its segment, over the arguments the kernel is launched on. -/
def valAt (d : Fin 1024) (n : ℕ) : EReal :=
  tokMlp (m ((c : Thread nD τ).loc main_arg0)) (m ((c : Thread nD τ).loc main_arg2)) (m ((c : Thread nD τ).loc main_arg3))
    (m ((c : Thread nD τ).loc main_arg4)) (m ((c : Thread nD τ).loc main_arg5)) d n
def scoreAt (d : Fin 1024) (n : ℕ) : EReal :=
  tokMlp (m ((c : Thread nD τ).loc main_arg0)) (m ((c : Thread nD τ).loc main_arg6)) (m ((c : Thread nD τ).loc main_arg7))
    (m ((c : Thread nD τ).loc main_arg8)) (m ((c : Thread nD τ).loc main_arg9)) d n
abbrev segAt (s : Fin 16) (n : ℕ) : Prop := inSeg (m ((c : Thread nD τ).loc main_arg1)) s n
abbrev realScore (d : Fin 1024) (n : ℕ) : ℝ := (scoreAt m c d n).toReal

variable (t : Fin cfg0.N)

theorem block_values (r : Fin 512) (d : Fin 1024) :
    tileMlp (iblk m c 0 t) (iblk m c 2 t) (iblk m c 3 t) (iblk m c 4 t) (iblk m c 5 t) r d = valAt m c d (512 * t.val + r.val) := by
  unfold tileMlp valAt tokMlp
  simp only [blk_x, blk_b10, blk_b11, blk_W10, blk_W11, tok_of_lt _ (row_lt t r)]

theorem block_scores (r : Fin 512) (d : Fin 1024) :
    tileMlp (iblk m c 0 t) (iblk m c 6 t) (iblk m c 7 t) (iblk m c 8 t) (iblk m c 9 t) r d = scoreAt m c d (512 * t.val + r.val) := by
  unfold tileMlp scoreAt tokMlp
  simp only [blk_x, blk_b20, blk_b21, blk_W20, blk_W21, tok_of_lt _ (row_lt t r)]

theorem block_seg (r : Fin 512) (s : Fin 16) :
    ((iblk m c 1 t : Vec Ideal S1x512x1 .i32) (ix3 0 r 0) = BitVec.ofNat 32 s.val) ↔ segAt m c s (512 * t.val + r.val) := by
  unfold segAt inSeg
  rw [blk_seg, tok_of_lt _ (row_lt t r)]

/-- What the carried arrays hold once `n` tokens are in. -/
def Holds (n : ℕ) (a : Vec Ideal S1x1024 .f32 × Vec Ideal S16x1024 .f32 × Vec Ideal S16x1024 .f32) : Prop :=
  ∀ d : Fin 1024, ∃ M : ℝ, a.1 (ix2 0 d) = (M : EReal) ∧ ∀ s : Fin 16,
    a.2.1 (ix2 s d) = wsum (segAt m c s) (realScore m c d) (fun _ => 1) M n
      ∧ a.2.2 (ix2 s d) = wsum (segAt m c s) (realScore m c d) (valAt m c d) M n

/-- The reset arrays hold no token. -/
theorem holds_reset : Holds m c 0 (k0_pay3 (F := Ideal), k0_pay4 (F := Ideal), k0_pay5 (F := Ideal)) := fun d => by
  obtain ⟨M, hM⟩ := word_start_real
  exact ⟨M, (reset_max d).trans hM, fun s => ⟨reset_weights s d, reset_sums s d⟩⟩

/-- One tile more. -/
theorem holds_step (hreal : ∀ d n, IsReal (scoreAt m c d n)) (a) (ha : Holds m c (512 * t.val) a) :
    Holds m c (512 * t.val + 512) (stepAt m c t a) := fun d => by
  obtain ⟨M, hM, hs⟩ := ha d
  have hL : ∀ n, scoreAt m c d n = ((realScore m c d n : ℝ) : EReal) := fun n => by
    obtain ⟨r, hr⟩ := hreal d n
    rw [realScore, hr, EReal.toReal_coe]
  obtain ⟨M', hM'⟩ := max_fold_real Finset.univ (fun r : Fin 512 => scoreAt m c d (512 * t.val + r.val)) (fun r _ => ⟨_, hL _⟩) M
  have hnew : (stepAt m c t a).1 (ix2 0 d) = (M' : EReal) := by
    rw [stepAt]
    dsimp only
    rw [tile_max, hM, ← hM']
    simp only [block_scores]
  exact ⟨M', hnew, fun s => ⟨
    weights_step (fun r => block_seg m c t r s) (fun r => (block_scores m c t r d).trans (hL _)) hM hnew (hs s).1,
    sums_step (fun r => block_seg m c t r s) (fun r => (block_scores m c t r d).trans (hL _)) (fun r => block_values m c t r d)
      hM hnew (hs s).2⟩⟩

/-- After point `n` the carried arrays hold the first `512 n + 512` tokens. -/
theorem holds_after (hreal : ∀ d n, IsReal (scoreAt m c d n)) :
    ∀ (n : ℕ) (hn : n < cfg0.N), n ≤ 30 → Holds m c (512 * n + 512) (outsAt0 m c n hn).2
  | 0, hn, _ => by
    rw [Value.outsAt0_zero, st_first m c ⟨0, hn⟩ _ rfl (by norm_num)]
    exact holds_step m c ⟨0, hn⟩ hreal _ (holds_reset m c)
  | n + 1, hn, h => by
    rw [Value.outsAt0_succ, st_middle m c ⟨n + 1, hn⟩ _ (by show ¬(n + 1) % 32 = 0; omega) (by show ¬(n + 1) % 32 = 31; omega)]
    exact holds_step m c ⟨n + 1, hn⟩ hreal _ (holds_after hreal n _ (by omega))

/-- THE KERNEL'S RESULT: the last layer on the pooled values. -/
theorem kernel_result (hreal : ∀ d n, IsReal (scoreAt m c d n)) (s : Fin 16) (d : Fin 512) :
    (Value.G14 m c : Vec Ideal S16x512 .f32) (ix2 s d)
      = answer (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) (m ((c : Thread nD τ).loc main_arg10)) (m ((c : Thread nD τ).loc main_arg11))
          (m ((c : Thread nD τ).loc main_arg12)) (m ((c : Thread nD τ).loc main_arg13)) s d := by
  have hlt : 31 < cfg0.N := by rw [show cfg0.N = 32 from N_0]; decide
  have hG : (Value.G14 m c : Vec Ideal S16x512 .f32) = (Value.stAt0 m c 31 hlt (outsAt0 m c 30 (Nat.lt_of_succ_lt hlt))).1 := by
    rw [Value.G14_last, ← Value.outsAt0_succ, Value.outsAt0_sweep]
  rw [hG, st_last m c ⟨31, hlt⟩ _ (by norm_num) (by norm_num)]
  have hh := holds_step m c ⟨31, hlt⟩ hreal _ (holds_after m c hreal 30 (Nat.lt_of_succ_lt hlt) (le_refl _))
  rw [tile_result, answer]
  simp only [blk_b30, blk_b31, blk_W30, blk_W31]
  refine congrArg (fun f => mlp f _ _ _ _ d) (funext fun k => ?_)
  obtain ⟨M, -, h⟩ := hh k
  rw [(h s).1, (h s).2]
  exact pooled_of_quotient _ _ _ M _

end Cert.Pooling

end
-- ==== Proof.SegmentSum.lean ====
/-
  A segment sum over the rows of a matrix, read at an entry: row `t` of the updates is added to the row of the operand that
  `t`'s index word names, the word read signed, and is dropped where the word names no row.
-/
module

public import Idealize.ShloMosaic.PureOps.Ideal
public import Idealize.ShloMosaic.Lib.Routing.OpsPair
public import Idealize.ShloMosaic.Lib.Routing.Ops

@[expose] public section

noncomputable section

namespace Cert.Pooling

open Idealize.ShloMosaic Idealize.ShloMosaic.Routing Idealize.ShloMosaic.ValueIdx
open scoped BigOperators

/-- Entry `(t, y)` of the updates is added at `(r, c)` exactly when row `t`'s word, read signed, is `r`, and `y` is `c`. -/
theorem row_lands {R C n w : ℕ} (d : ScatterDims (shape2 R C) (shape2 n 1) (shape2 n C)) (huw : d.updateWindowDims = [1])
    (hiw : d.insertedWindowDims = [0]) (hsd : d.scatterDimsToOperandDims = [0]) (hivd : d.indexVectorDim = 1)
    (idx : IVec (shape2 n 1) w) (t : Fin n) (y : Fin C) (r : Fin R) (c : Fin C) :
    d.resultIdx? (ix2 t y) idx = some (ix2 r c) ↔ (idx (ix2 t 0)).toInt = (r.val : Int) ∧ y = c := by
  have hm : (0 : Fin 2) ∈ d.scatterDimsToOperandDims := by rw [hsd]; exact List.mem_singleton.2 rfl
  have hkept : d.sKept = [1] := by
    show (shape2 R C).kept d.insertedWindowDims = _
    rw [hiw]; rfl
  have hu : ∀ X ∈ d.uScatter, X = (0 : Fin 2) := fun X hX => by
    have h := of_decide_eq_true (List.mem_filter.1 hX).2
    rw [huw, List.mem_singleton] at h
    have h1 : X.val ≠ 1 := fun e => h (Fin.ext e)
    have h2 : X.val < 2 := X.isLt
    exact Fin.ext (by show X.val = 0; omega)
  have hw1 : ∀ X ∈ d.updateWindowDims, X = (1 : Fin 2) := fun X hX => by rw [huw] at hX; exact List.mem_singleton.1 hX
  have e0 : ∀ X : Fin 2, X = 0 → (ix2 t y X).val = t.val := fun X h => by subst h; rfl
  have e1 : ∀ X : Fin 2, X = 1 → (ix2 t y X).val = y.val := fun X h => by subst h; rfl
  have win0 : d.window (ix2 t y) 0 = 0 := by
    unfold ScatterDims.window
    rw [dif_neg fun h => by rw [hkept] at h; exact absurd (List.mem_singleton.1 h) (by decide : (0 : Fin 2) ≠ 1)]
  have win1 : d.window (ix2 t y) 1 = y.val := by
    unfold ScatterDims.window
    rw [dif_pos (by rw [hkept]; exact List.mem_singleton.2 rfl)]
    exact e1 _ (hw1 _ (List.getElem_mem _))
  have start1 : d.start (ix2 t y) idx 1 = 0 := by
    unfold ScatterDims.start
    rw [dif_neg fun h => by rw [hsd] at h; exact absurd (List.mem_singleton.1 h) (by decide : (1 : Fin 2) ≠ 0)]
  have start0 : d.start (ix2 t y) idx 0 = (idx (ix2 t 0)).toInt := by
    unfold ScatterDims.start
    rw [dif_pos hm]
    have hsi : d.siIdx (ix2 t y) ⟨d.scatterDimsToOperandDims.idxOf 0, List.idxOf_lt_length_iff.2 hm⟩ = ix2 t (0 : Fin 1) := by
      funext b
      apply Fin.ext
      match b with
      | ⟨0, _⟩ =>
        unfold ScatterDims.siIdx
        rw [dif_neg (by rw [hivd]; exact Nat.zero_ne_one)]
        unfold ScatterDims.siCoord
        simp only [Fin.val_cast]
        exact e0 _ (hu _ (List.getElem_mem _))
      | ⟨1, _⟩ =>
        exact congrArg Fin.val (Subsingleton.elim (α := Fin 1) _ _)
    rw [hsi]
  rw [Fin.ext_iff, resultIdx?_ix2, start0, win0, start1, win1]
  omega

/-- THE SEGMENT SUM at an entry: the operand's entry plus column `c` of the rows whose word is `r`. -/
theorem segment_sum {R C n w : ℕ} (d : ScatterDims (shape2 R C) (shape2 n 1) (shape2 n C)) (huw : d.updateWindowDims = [1])
    (hiw : d.insertedWindowDims = [0]) (hsd : d.scatterDimsToOperandDims = [0]) (hivd : d.indexVectorDim = 1)
    (x : (shape2 R C).Idx → EReal) (idx : IVec (shape2 n 1) w) (upd : (shape2 n C).Idx → EReal) (r : Fin R) (c : Fin C) :
    Ideal.hostScatterAdd d x idx upd (ix2 r c)
      = x (ix2 r c) + ∑ t : Fin n, if (idx (ix2 t 0)).toInt = (r.val : Int) then upd (ix2 t c) else 0 := by
  unfold Ideal.hostScatterAdd
  congr 1
  rw [Finset.sum_filter, sum_idx2]
  refine Finset.sum_congr rfl fun t _ => ?_
  simp only [row_lands d huw hiw hsd hivd idx t _ r c]
  by_cases h : (idx (ix2 t 0)).toInt = (r.val : Int)
  · simp only [h, true_and, if_true]
    rw [Finset.sum_ite_eq' Finset.univ c, if_pos (Finset.mem_univ c)]
  · simp only [h, false_and, if_false, Finset.sum_const_zero]

end Cert.Pooling

end
-- ==== Proof.Reference.lean ====
/-
  The reference in its stages, each read at an entry over the extended reals: the layers token by token, the masked maximum, the
  rows gathered back by segment, the segment sums, and the last layer.
-/
module

public import proofs.«01_k».proof.Proof.Gen.ReferenceIdeal.Run
public import proofs.«01_k».proof.Proof.Pooled
public import proofs.«01_k».proof.Proof.Words
public import proofs.«01_k».proof.Proof.SegmentSum
public import Idealize.ShloMosaic.Lib.Pointwise

@[expose] public section

set_option maxRecDepth 16384

noncomputable section

namespace Cert.Pooling

open Idealize.ShloMosaic
open Cert.ReferenceIdeal Cert.ReferenceIdeal.Gen Cert.ReferenceIdeal.Facts
open scoped BigOperators

/-! ## The stages -/

/-- A layer on every token. -/
def refMlp (x : FVec Ideal S16384x1024 .f32) (W0 : FVec Ideal S1024x2048 .f32) (b0 : FVec Ideal S2048 .f32)
    (W1 : FVec Ideal S2048x1024 .f32) (b1 : FVec Ideal S1024 .f32) : FVec Ideal S16384x1024 .f32 :=
  addf (Host.dotGeneral dot_S16384x2048_S2048x1024_S16384x1024_1_0_0_1_n_n none
    (maximumf (addf (Host.dotGeneral dot_S16384x1024_S1024x2048_S16384x2048_1_0_0_1_n_n none x W0)
        (broadcastInDim S16384x2048 ![0, 1] bcast_S1x2048_S16384x2048_0_1 (broadcastInDim S1x2048 ![1] bcast_S2048_S1x2048_1 b0)))
      (broadcastInDim S16384x2048 ![] bcast_S_S16384x2048 (constant S_ .f32 0x00000000#32))) W1)
    (broadcastInDim S16384x1024 ![0, 1] bcast_S1x1024_S16384x1024_0_1 (broadcastInDim S1x1024 ![1] bcast_S1024_S1x1024_1 b1))

/-- The maximum of each segment. -/
def refMax (ids : IVec S16384 32) (L : FVec Ideal S16384x1024 .f32) : FVec Ideal S16x1024 .f32 :=
  Host.reduce FloatOps.maximumf
    (select (broadcastInDim S16x16384x1024 ![0, 1, 2] bcast_S16x16384x1_S16x16384x1024_0_1_2
        (cmpi .eq (broadcastInDim S16x16384x1 ![0, 1, 2] bcast_S1x16384x1_S16x16384x1_0_1_2 (broadcastInDim S1x16384x1 ![1] bcast_S16384_S1x16384x1_1 ids))
          (broadcastInDim S16x16384x1 ![0, 1, 2] bcast_S16x1x1_S16x16384x1_0_1_2 (broadcastInDim S16x1x1 ![0] bcast_S16_S16x1x1_0 (iotaInDim S16 32 0)))))
      (broadcastInDim S16x16384x1024 ![0, 1, 2] bcast_S1x16384x1024_S16x16384x1024_0_1_2 (broadcastInDim S1x16384x1024 ![1, 2] bcast_S16384x1024_S1x16384x1024_1_2 L))
      (broadcastInDim S16x16384x1024 ![] bcast_S_S16x16384x1024 (id (constant S_ .f32 0xFF800000#32))))
    (constant S_ .f32 0xFF800000#32) reducesTo_S16x16384x1024_S16x1024_d1 h_S_

/-- The ids as row numbers, a negative one counted from the end. -/
def refRows (ids : IVec S16384 32) : IVec S16384x1 32 :=
  broadcastInDim S16384x1 ![0] bcast_S16384_S16384x1_0
    (select (cmpi .slt ids (broadcastInDim S16384 ![] bcast_S_S16384 (constantI S_ 32 0#32)))
      (addi ids (broadcastInDim S16384 ![] bcast_S_S16384 (constantI S_ 32 16#32))) ids)

/-- A row per segment handed back to the tokens. -/
def refBack (ids : IVec S16384 32) (a : FVec Ideal S16x1024 .f32) : FVec Ideal S16384x1024 .f32 :=
  Host.gather gather_S16x1024_S16384x1_S16384x1024_1_0_n_n_0_1_11024 a (refRows ids)

/-- The sum of each segment. -/
def refSum (ids : IVec S16384 32) (u : FVec Ideal S16384x1024 .f32) : FVec Ideal S16x1024 .f32 :=
  Host.scatterAdd scatter_S16x1024_S16384x1_S16384x1024_1_0_0_1 (broadcastInDim S16x1024 ![] bcast_S_S16x1024 (constant S_ .f32 0x00000000#32))
    (broadcastInDim S16384x1 ![0] bcast_S16384_S16384x1_0 ids) u

/-- The exponentials of the scores under their segment's maximum. -/
def refExp (ids : IVec S16384 32) (L : FVec Ideal S16384x1024 .f32) : FVec Ideal S16384x1024 .f32 :=
  Host.exp (subf L (refBack ids (refMax ids L)))

/-- The values weighted by the softmax of the scores, summed by segment. -/
def refPool (ids : IVec S16384 32) (L v : FVec Ideal S16384x1024 .f32) : FVec Ideal S16x1024 .f32 :=
  refSum ids (mulf v (Host.divf (refExp ids L) (refBack ids (refSum ids (refExp ids L)))))

/-- The last layer, on each segment. -/
def refLast (a : FVec Ideal S16x1024 .f32) (W0 : FVec Ideal S1024x1024 .f32) (b0 : FVec Ideal S1024 .f32)
    (W1 : FVec Ideal S1024x512 .f32) (b1 : FVec Ideal S512 .f32) : FVec Ideal S16x512 .f32 :=
  addf (Host.dotGeneral dot_S16x1024_S1024x512_S16x512_1_0_0_1_n_n none
    (maximumf (addf (Host.dotGeneral dot_S16x1024_S1024x1024_S16x1024_1_0_0_1_n_n none a W0)
        (broadcastInDim S16x1024 ![0, 1] bcast_S1x1024_S16x1024_0_1 (broadcastInDim S1x1024 ![1] bcast_S1024_S1x1024_1 b0)))
      (broadcastInDim S16x1024 ![] bcast_S_S16x1024 (constant S_ .f32 0x00000000#32))) W1)
    (broadcastInDim S16x512 ![0, 1] bcast_S1x512_S16x512_0_1 (broadcastInDim S1x512 ![1] bcast_S512_S1x512_1 b1))

/-- The reference's result is its stages, one after the other. -/
theorem ref_stages (m : (ℓ : Loc nD τ sig) → Buf (Elt Ideal) ℓ) (c : Dev nD) : Value.res_out0 m c
    = refLast (refPool (m ((c.tc : Thread nD τ).loc main_arg1))
        (refMlp (m ((c.tc : Thread nD τ).loc main_arg0)) (m ((c.tc : Thread nD τ).loc main_arg6)) (m ((c.tc : Thread nD τ).loc main_arg7))
          (m ((c.tc : Thread nD τ).loc main_arg8)) (m ((c.tc : Thread nD τ).loc main_arg9)))
        (refMlp (m ((c.tc : Thread nD τ).loc main_arg0)) (m ((c.tc : Thread nD τ).loc main_arg2)) (m ((c.tc : Thread nD τ).loc main_arg3))
          (m ((c.tc : Thread nD τ).loc main_arg4)) (m ((c.tc : Thread nD τ).loc main_arg5))))
      (m ((c.tc : Thread nD τ).loc main_arg10)) (m ((c.tc : Thread nD τ).loc main_arg11)) (m ((c.tc : Thread nD τ).loc main_arg12)) (m ((c.tc : Thread nD τ).loc main_arg13)) := by
  unfold Value.res_out0 Value.res_main_v59
  rfl

/-! ## The stages at an entry -/

theorem refMlp_at (x : FVec Ideal S16384x1024 .f32) (W0 : FVec Ideal S1024x2048 .f32) (b0 : FVec Ideal S2048 .f32)
    (W1 : FVec Ideal S2048x1024 .f32) (b1 : FVec Ideal S1024 .f32) (t : Fin 16384) (d : Fin 1024) :
    refMlp x W0 b0 W1 b1 (ix2 t d) = tokMlp x W0 b0 W1 b1 d t.val := by
  unfold tokMlp
  rw [tok_val]
  pointwise [refMlp, mlp]

theorem refLast_at (a : FVec Ideal S16x1024 .f32) (W0 : FVec Ideal S1024x1024 .f32) (b0 : FVec Ideal S1024 .f32)
    (W1 : FVec Ideal S1024x512 .f32) (b1 : FVec Ideal S512 .f32) (s : Fin 16) (d : Fin 512) :
    refLast a W0 b0 W1 b1 (ix2 s d) = mlp (fun k => a (ix2 s k)) (fun i j => W0 (ix2 i j)) (fun j => b0 (ix1 j))
      (fun j d => W1 (ix2 j d)) (fun d => b1 (ix1 d)) d := by
  pointwise [refLast, mlp]

theorem refMax_at (ids : IVec S16384 32) (L : FVec Ideal S16384x1024 .f32) (s : Fin 16) (d : Fin 1024) :
    refMax ids L (ix2 s d)
      = Finset.univ.fold max ⊥ fun t : Fin 16384 => if ids (ix1 t) = BitVec.ofNat 32 s.val then L (ix2 t d) else ⊥ := by
  simp only [← select_eq, ← word_bot]
  pointwise [refMax]
  rfl

/-- A token of segment `s` is handed row `s`. -/
theorem refBack_at (ids : IVec S16384 32) (a : FVec Ideal S16x1024 .f32) (s : Fin 16) (t : Fin 16384) (d : Fin 1024)
    (h : ids (ix1 t) = BitVec.ofNat 32 s.val) : refBack ids a (ix2 t d) = a (ix2 s d) := by
  have hrow : refRows ids (ix2 t 0) = BitVec.ofNat 32 s.val := by
    pointwise [refRows]
    rw [h]
    refine Routing.wrap_of_lt _ _ ?_
    rw [BitVec.toNat_ofNat]
    omega
  rw [ix2_eq_valueIdx] at hrow
  rw [ix2_eq_valueIdx, ix2_eq_valueIdx]
  exact Routing.gather_row gather_S16x1024_S16384x1_S16384x1024_1_0_n_n_0_1_11024 rfl rfl rfl rfl rfl a (refRows ids) t d s hrow (by norm_num)

/-- A word read signed is a small number exactly when it is that number's word. -/
theorem toInt_eq_small (w : BitVec 32) (s : Fin 16) : w.toInt = (s.val : Int) ↔ w = BitVec.ofNat 32 s.val := by
  constructor
  · intro h
    rw [← BitVec.ofInt_toInt (x := w), h]
    exact BitVec.ofInt_natCast 32 s.val
  · rintro rfl
    exact (by decide : ∀ s : Fin 16, (BitVec.ofNat 32 s.val).toInt = (s.val : Int)) s

theorem refSum_at (ids : IVec S16384 32) (u : FVec Ideal S16384x1024 .f32) (s : Fin 16) (d : Fin 1024) :
    refSum ids u (ix2 s d) = ∑ t : Fin 16384, if ids (ix1 t) = BitVec.ofNat 32 s.val then u (ix2 t d) else 0 := by
  have hid : ∀ t : Fin 16384, broadcastInDim S16384x1 ![0] bcast_S16384_S16384x1_0 ids (ValueIdx.ix2 t 0) = ids (ix1 t) := fun t => by
    rw [← ix2_eq_valueIdx]
    pointwise
  have hz : broadcastInDim S16x1024 ![] bcast_S_S16x1024 (constant (F := Ideal) S_ .f32 0x00000000#32) (ValueIdx.ix2 s d) = (0 : EReal) := by
    rw [← ix2_eq_valueIdx]
    pointwise
  rw [ix2_eq_valueIdx, refSum]
  refine (segment_sum scatter_S16x1024_S16384x1_S16384x1024_1_0_0_1 rfl rfl rfl rfl _ _ u s d).trans ?_
  rw [hz, zero_add]
  refine Finset.sum_congr rfl fun t _ => ?_
  rw [hid, ix2_eq_valueIdx]
  exact if_congr (toInt_eq_small _ s) rfl rfl

end Cert.Pooling

end
-- ==== Proof.RefPool.lean ====
/-
  The reference's pooling is the softmax-weighted sum: within a segment every score is shifted by the segment's own maximum, a real
  number, and divided by the segment's own sum; a segment with no token sums nothing.
-/
module

public import proofs.«01_k».proof.Proof.Reference

@[expose] public section

set_option maxRecDepth 16384

noncomputable section

namespace Cert.Pooling

open Idealize.ShloMosaic
open Cert.ReferenceIdeal Cert.ReferenceIdeal.Gen
open scoped BigOperators

variable (ids : IVec S16384 32) (L v : FVec Ideal S16384x1024 .f32)

/-- A token is in a segment by its own position. -/
theorem inSeg_val (s : Fin 16) (t : Fin 16384) : inSeg ids s t.val ↔ ids (ix1 t) = BitVec.ofNat 32 s.val := by
  rw [inSeg, tok_val]

/-- The exponential of a token of segment `s`, the segment's maximum being `M`. -/
theorem refExp_at (s : Fin 16) (t : Fin 16384) (d : Fin 1024) (h : ids (ix1 t) = BitVec.ofNat 32 s.val) (r M : ℝ)
    (hr : L (ix2 t d) = (r : EReal)) (hM : refMax ids L (ix2 s d) = (M : EReal)) :
    refExp ids L (ix2 t d) = ((Real.exp (r - M) : ℝ) : EReal) := by
  rw [← exp_sub, ← hr, ← hM, ← refBack_at ids (refMax ids L) s t d h]
  unfold refExp
  pointwise

/-- A token's weight: its exponential over its segment's sum. -/
theorem refWeight_at (s : Fin 16) (t : Fin 16384) (d : Fin 1024) (h : ids (ix1 t) = BitVec.ofNat 32 s.val) (u : FVec Ideal S16384x1024 .f32) :
    Host.divf u (refBack ids (refSum ids u)) (ix2 t d) = Ideal.div (u (ix2 t d)) (refSum ids u (ix2 s d)) := by
  rw [← refBack_at ids (refSum ids u) s t d h]
  pointwise

/-- THE REFERENCE'S POOLING at an entry, the scores of the column being real. -/
theorem refPool_at (s : Fin 16) (d : Fin 1024) (f : ℕ → ℝ) (g : ℕ → EReal) (hf : ∀ t : Fin 16384, L (ix2 t d) = ((f t.val : ℝ) : EReal))
    (hg : ∀ t : Fin 16384, v (ix2 t d) = g t.val) : refPool ids L v (ix2 s d) = pooled (inSeg ids s) f g 16384 := by
  unfold refPool
  rw [refSum_at]
  by_cases h : ∃ t : Fin 16384, ids (ix1 t) = BitVec.ofNat 32 s.val
  · obtain ⟨t₀, h₀⟩ := h
    obtain ⟨M, hM⟩ : ∃ M : ℝ, refMax ids L (ix2 s d) = (M : EReal) := by
      simp only [refMax_at, hf]
      exact fold_max_select_real _ (fun t => ids (ix1 t) = BitVec.ofNat 32 s.val) (fun t => f t.val) t₀ (Finset.mem_univ _) h₀
    have hsum : refSum ids (refExp ids L) (ix2 s d) = wsum (inSeg ids s) f (fun _ => 1) M 16384 := by
      rw [refSum_at, wsum, Finset.sum_range]
      refine Finset.sum_congr rfl fun t _ => ?_
      by_cases ht : ids (ix1 t) = BitVec.ofNat 32 s.val
      · rw [if_pos ht, if_pos ((inSeg_val ids s t).2 ht), refExp_at ids L s t d ht _ M (hf t) hM, mul_one]
      · rw [if_neg ht, if_neg fun e => ht ((inSeg_val ids s t).1 e)]
    rw [← pooled_of_shift _ _ _ M, Finset.sum_range]
    refine Finset.sum_congr rfl fun t _ => ?_
    by_cases ht : ids (ix1 t) = BitVec.ofNat 32 s.val
    · rw [if_pos ht, if_pos ((inSeg_val ids s t).2 ht), ← hsum, ← refExp_at ids L s t d ht _ M (hf t) hM, ← hg,
        ← refWeight_at ids s t d ht]
      pointwise
    · rw [if_neg ht, if_neg fun e => ht ((inSeg_val ids s t).1 e)]
  · have hn : ∀ t : Fin 16384, ¬ids (ix1 t) = BitVec.ofNat 32 s.val := fun t ht => h ⟨t, ht⟩
    rw [pooled, Finset.sum_range, Finset.sum_eq_zero fun t _ => if_neg (hn t),
      Finset.sum_eq_zero fun t _ => if_neg fun e => hn t ((inSeg_val ids s t).1 e)]

/-- THE REFERENCE'S RESULT: the last layer on the pooled values. -/
theorem reference_result (m : (ℓ : Loc nD τ sig) → Buf (Elt Ideal) ℓ) (c : Dev nD)
    (hreal : ∀ d n, IsReal (tokMlp (m ((c.tc : Thread nD τ).loc main_arg0)) (m ((c.tc : Thread nD τ).loc main_arg6)) (m ((c.tc : Thread nD τ).loc main_arg7))
      (m ((c.tc : Thread nD τ).loc main_arg8)) (m ((c.tc : Thread nD τ).loc main_arg9)) d n)) (s : Fin 16) (d : Fin 512) :
    (Value.res_out0 m c : FVec Ideal S16x512 .f32) (ix2 s d)
      = answer (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) (m ((c.tc : Thread nD τ).loc main_arg11))
          (m ((c.tc : Thread nD τ).loc main_arg12)) (m ((c.tc : Thread nD τ).loc main_arg13)) s d := by
  rw [ref_stages, refLast_at, answer]
  refine congrArg (fun f => mlp f _ _ _ _ d) (funext fun k => ?_)
  refine refPool_at _ _ _ s k _ _ (fun t => ?_) (fun t => refMlp_at _ _ _ _ _ t k)
  obtain ⟨r, hr⟩ := hreal k t.val
  rw [refMlp_at, hr, EReal.toReal_coe]

end Cert.Pooling

end
-- ==== Proof.Precondition.lean ====
/-
  The precondition, read back: where it holds, every element of the five arrays that the scores are computed from is a real number.
-/
module

public import proofs.«01_k».proof.Defs
public import proofs.«01_k».proof.Proof.Gen.Pre_logit_inputs_finite
public import proofs.«01_k».proof.Proof.Words
public import Idealize.ShloMosaic.Lib.ReduceAll

@[expose] public section

noncomputable section

namespace Cert.Pooling

open Idealize.ShloMosaic

/-- An extended real whose absolute value is below plus infinity is a real number. -/
theorem isReal_of_abs_lt {x : EReal} (h : Ideal.cmp .olt (max x (-x)) ⊤ = 1#1) : IsReal x := by
  have hlt : max x (-x) < ⊤ := by
    by_contra hn
    have e : Ideal.cmp .olt (max x (-x)) ⊤ = BitVec.ofBool (decide (max x (-x) < ⊤)) := rfl
    rw [e, decide_eq_false hn] at h
    exact absurd h (by decide)
  rw [max_lt_iff] at hlt
  refine ⟨x.toReal, (EReal.coe_toReal hlt.1.ne fun hb => ?_).symm⟩
  rw [hb, EReal.neg_bot] at hlt
  exact lt_irrefl _ hlt.2

/-- "Every element is finite" as it is tested: the conjunction, over all indices, of `|x| < ∞`. -/
theorem isReal_of_all {s t u z : Shape} [Subsingleton t.Idx] {axes : List (Fin s.rank)} (x : FVec Ideal s .f32) {d : Fin z.rank → Fin s.rank}
    (hb : z.BroadcastsInDim s d) (init : u.Idx → BitVec 1) (h : s.ReducesTo axes t) (hu : 0 < u.numel) (j : t.Idx)
    (e : Host.reduce IntOp.andi (cmpf .olt (Host.absf x) (broadcastInDim s d hb (constant z .f32 0x7F800000#32))) init h hu j = 1#1)
    (i : s.Idx) : IsReal (x i) := by
  have hi := Host.reduce_andi_all _ _ _ _ j e i
  refine isReal_of_abs_lt ?_
  rw [← word_top]
  exact hi

/-- THE PRECONDITION, read back: the tokens, and both layers' weights and biases of the scores, are real. -/
theorem finite_inputs (m : (ℓ : Loc Cert.KernelIdeal.nD Cert.KernelIdeal.τ Cert.KernelIdeal.sig) → Buf (Elt Ideal) ℓ)
    (hpre : Pre_KernelIdeal_logit_inputs_finite m) (c : Dev Cert.KernelIdeal.nD) :
    (∀ i, IsReal ((m ((c.tc : Thread Cert.KernelIdeal.nD Cert.KernelIdeal.τ).loc Cert.KernelIdeal.main_arg0)) i)) ∧ (∀ i, IsReal ((m ((c.tc : Thread Cert.KernelIdeal.nD Cert.KernelIdeal.τ).loc Cert.KernelIdeal.main_arg6)) i))
    ∧ (∀ i, IsReal ((m ((c.tc : Thread Cert.KernelIdeal.nD Cert.KernelIdeal.τ).loc Cert.KernelIdeal.main_arg7)) i)) ∧ (∀ i, IsReal ((m ((c.tc : Thread Cert.KernelIdeal.nD Cert.KernelIdeal.τ).loc Cert.KernelIdeal.main_arg8)) i))
    ∧ ∀ i, IsReal ((m ((c.tc : Thread Cert.KernelIdeal.nD Cert.KernelIdeal.τ).loc Cert.KernelIdeal.main_arg9)) i) := by
  haveI : Subsingleton Cert.Pre_logit_inputs_finite.S_.Idx := ⟨fun a b => funext fun k => k.elim0⟩
  have h := congrFun (hpre c) ix0
  obtain ⟨h, h9⟩ := IntOp.andi_eq_one.1 h
  obtain ⟨h, h8⟩ := IntOp.andi_eq_one.1 h
  obtain ⟨h, h7⟩ := IntOp.andi_eq_one.1 h
  obtain ⟨h0, h6⟩ := IntOp.andi_eq_one.1 h
  exact ⟨isReal_of_all _ _ _ _ _ ix0 h0, isReal_of_all _ _ _ _ _ ix0 h6, isReal_of_all _ _ _ _ _ ix0 h7,
    isReal_of_all _ _ _ _ _ ix0 h8, isReal_of_all _ _ _ _ _ ix0 h9⟩

end Cert.Pooling

end
-- ==== Proof.Equation.lean ====
/-
  The value claim's equation: under the precondition, and on memories that agree on the arguments, the reference's result is the
  kernel's. Both are `answer` of the same arrays.
-/
module

public import proofs.«01_k».proof.Proof.Fold
public import proofs.«01_k».proof.Proof.RefPool
public import proofs.«01_k».proof.Proof.Precondition

@[expose] public section

set_option maxRecDepth 16384

noncomputable section

namespace Cert.Pooling

open Idealize.ShloMosaic

/-- THE EQUATION of the reference's result and the kernel's. -/
theorem results_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Pre_KernelIdeal_logit_inputs_finite m) (c : Dev Cert.KernelIdeal.nD)
    (hagree : (m' ((c.tc : Thread Cert.ReferenceIdeal.nD Cert.ReferenceIdeal.τ).loc Cert.ReferenceIdeal.main_arg0)) = (m ((c.tc : Thread Cert.KernelIdeal.nD Cert.KernelIdeal.τ).loc Cert.KernelIdeal.main_arg0))
      ∧ (m' ((c.tc : Thread Cert.ReferenceIdeal.nD Cert.ReferenceIdeal.τ).loc Cert.ReferenceIdeal.main_arg1)) = (m ((c.tc : Thread Cert.KernelIdeal.nD Cert.KernelIdeal.τ).loc Cert.KernelIdeal.main_arg1))
      ∧ (m' ((c.tc : Thread Cert.ReferenceIdeal.nD Cert.ReferenceIdeal.τ).loc Cert.ReferenceIdeal.main_arg2)) = (m ((c.tc : Thread Cert.KernelIdeal.nD Cert.KernelIdeal.τ).loc Cert.KernelIdeal.main_arg2))
      ∧ (m' ((c.tc : Thread Cert.ReferenceIdeal.nD Cert.ReferenceIdeal.τ).loc Cert.ReferenceIdeal.main_arg3)) = (m ((c.tc : Thread Cert.KernelIdeal.nD Cert.KernelIdeal.τ).loc Cert.KernelIdeal.main_arg3))
      ∧ (m' ((c.tc : Thread Cert.ReferenceIdeal.nD Cert.ReferenceIdeal.τ).loc Cert.ReferenceIdeal.main_arg4)) = (m ((c.tc : Thread Cert.KernelIdeal.nD Cert.KernelIdeal.τ).loc Cert.KernelIdeal.main_arg4))
      ∧ (m' ((c.tc : Thread Cert.ReferenceIdeal.nD Cert.ReferenceIdeal.τ).loc Cert.ReferenceIdeal.main_arg5)) = (m ((c.tc : Thread Cert.KernelIdeal.nD Cert.KernelIdeal.τ).loc Cert.KernelIdeal.main_arg5))
      ∧ (m' ((c.tc : Thread Cert.ReferenceIdeal.nD Cert.ReferenceIdeal.τ).loc Cert.ReferenceIdeal.main_arg6)) = (m ((c.tc : Thread Cert.KernelIdeal.nD Cert.KernelIdeal.τ).loc Cert.KernelIdeal.main_arg6))
      ∧ (m' ((c.tc : Thread Cert.ReferenceIdeal.nD Cert.ReferenceIdeal.τ).loc Cert.ReferenceIdeal.main_arg7)) = (m ((c.tc : Thread Cert.KernelIdeal.nD Cert.KernelIdeal.τ).loc Cert.KernelIdeal.main_arg7))
      ∧ (m' ((c.tc : Thread Cert.ReferenceIdeal.nD Cert.ReferenceIdeal.τ).loc Cert.ReferenceIdeal.main_arg8)) = (m ((c.tc : Thread Cert.KernelIdeal.nD Cert.KernelIdeal.τ).loc Cert.KernelIdeal.main_arg8))
      ∧ (m' ((c.tc : Thread Cert.ReferenceIdeal.nD Cert.ReferenceIdeal.τ).loc Cert.ReferenceIdeal.main_arg9)) = (m ((c.tc : Thread Cert.KernelIdeal.nD Cert.KernelIdeal.τ).loc Cert.KernelIdeal.main_arg9))
      ∧ (m' ((c.tc : Thread Cert.ReferenceIdeal.nD Cert.ReferenceIdeal.τ).loc Cert.ReferenceIdeal.main_arg10)) = (m ((c.tc : Thread Cert.KernelIdeal.nD Cert.KernelIdeal.τ).loc Cert.KernelIdeal.main_arg10))
      ∧ (m' ((c.tc : Thread Cert.ReferenceIdeal.nD Cert.ReferenceIdeal.τ).loc Cert.ReferenceIdeal.main_arg11)) = (m ((c.tc : Thread Cert.KernelIdeal.nD Cert.KernelIdeal.τ).loc Cert.KernelIdeal.main_arg11))
      ∧ (m' ((c.tc : Thread Cert.ReferenceIdeal.nD Cert.ReferenceIdeal.τ).loc Cert.ReferenceIdeal.main_arg12)) = (m ((c.tc : Thread Cert.KernelIdeal.nD Cert.KernelIdeal.τ).loc Cert.KernelIdeal.main_arg12))
      ∧ (m' ((c.tc : Thread Cert.ReferenceIdeal.nD Cert.ReferenceIdeal.τ).loc Cert.ReferenceIdeal.main_arg13)) = (m ((c.tc : Thread Cert.KernelIdeal.nD Cert.KernelIdeal.τ).loc Cert.KernelIdeal.main_arg13))) :
    (Cert.ReferenceIdeal.Value.res_out0 m' c : FVec Ideal ⟨2, ![16, 512]⟩ .f32) = Cert.KernelIdeal.Value.G14 m c := by
  obtain ⟨e0, e1, e2, e3, e4, e5, e6, e7, e8, e9, e10, e11, e12, e13⟩ := hagree
  obtain ⟨h0, h6, h7, h8, h9⟩ := finite_inputs m hpre c
  have hk := tokMlp_real h0 h6 h7 h8 h9
  funext j
  obtain ⟨s, d, rfl⟩ : ∃ (s : Fin 16) (d : Fin 512), j = ix2 s d := ⟨j 0, j 1, eq_ix2 j⟩
  refine (reference_result m' c ?_ s d).trans ((kernel_result m c hk s d).trans ?_).symm
  · intro d n
    rw [e0, e6, e7, e8, e9]
    exact hk d n
  · rw [e0, e1, e2, e3, e4, e5, e6, e7, e8, e9, e10, e11, e12, e13]

end Cert.Pooling

end
-- ==== Proof.lean ====
/-
  The proof of `Cert.Claim`. The frames are the programs' runs; the value claim runs both programs on memories that agree on the
  arguments and closes with the equation of their results (`Proof/Equation.lean`).
-/
module

public import proofs.«01_k».proof.Defs
public import proofs.«01_k».proof.Proof.Gen.Kernel.Frame
public import proofs.«01_k».proof.Proof.Gen.KernelIdeal.Value
public import proofs.«01_k».proof.Proof.Gen.Pre_logit_inputs_finite
public import proofs.«01_k».proof.Proof.Gen.ReferenceIdeal.Run
public import proofs.«01_k».proof.Proof.Equation
public import Idealize.ShloMosaic.Adequacy
public import Idealize.ShloMosaic.Init
public import Idealize.ShloMosaic.Lib.Quiescent

@[expose] public section

noncomputable section

namespace Cert.Proof

open Idealize.ShloMosaic Idealize.SL.Sem

theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem quiescent_ReferenceIdeal_pre_logit_inputs_finite : quiescent_ReferenceIdeal_pre_logit_inputs_finite := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem algebraic_KernelIdeal_ReferenceIdeal_pre_logit_inputs_finite :
    algebraic_KernelIdeal_ReferenceIdeal_pre_logit_inputs_finite := by
  intro m ρ m' ρ' hpre hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  exact Cert.Pooling.results_eq m m' hpre c (hagree c)

theorem claim : Cert.Claim := ⟨Cert.Kernel.Gen.facts, Cert.KernelIdeal.Gen.facts, Cert.ReferenceIdeal.Gen.facts, Cert.Pre_logit_inputs_finite.Gen.facts,
  fun m ρ _ => Cert.Kernel.Gen.frame m ρ, fun m ρ _ => Cert.KernelIdeal.Gen.frame m ρ, fun m ρ _ => Cert.KernelIdeal.Gen.frame m ρ, quiescent_ReferenceIdeal,
  quiescent_ReferenceIdeal_pre_logit_inputs_finite, (trivial : preserves_Kernel_KernelIdeal), algebraic_KernelIdeal_ReferenceIdeal_pre_logit_inputs_finite⟩

end Cert.Proof

end
